-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x128x32x32 : Shape := ⟨4, ![16, 128, 32, 32]⟩
abbrev S1024x128 : Shape := ⟨2, ![1024, 128]⟩
abbrev S_ : Shape := ⟨0, ![]⟩

class Facts : Prop where
  bcast_S_S16x128x32x32 : S_.BroadcastsInDim S16x128x32x32 (![] : Fin 0 → Fin S16x128x32x32.rank)
  reducesTo_S16x128x32x32_S_d0_1_2_3 : S16x128x32x32.ReducesTo [0, 1, 2, 3] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S16x128x32x32 .f32) (main_arg1 : FVec F S1024x128 .f32) : IVec S_ 1 :=
  let main_v0 : FVec F S16x128x32x32 .f32 := Host.absf main_arg0
  let main_cst : FVec F S_ .f32 := constant S_ .f32 0x7F800000#32
  let main_v1 : FVec F S16x128x32x32 .f32 := broadcastInDim S16x128x32x32 ![] bcast_S_S16x128x32x32 main_cst
  let main_v2 : IVec S16x128x32x32 1 := cmpf .olt main_v0 main_v1
  let main_c : IVec S_ 1 := constantI S_ 1 1#1
  let main_v3 : IVec S_ 1 := (fun x v => Host.reduce IntOp.andi x v reducesTo_S16x128x32x32_S_d0_1_2_3 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S16x128x32x32 : Shape := ⟨4, ![16, 128, 32, 32]⟩
abbrev S1024x128 : Shape := ⟨2, ![1024, 128]⟩
abbrev S16x128x1024 : Shape := ⟨3, ![16, 128, 1024]⟩
abbrev S1024 : Shape := ⟨1, ![1024]⟩
abbrev S1024x1 : Shape := ⟨2, ![1024, 1]⟩
abbrev S16x1x1024 : Shape := ⟨3, ![16, 1, 1024]⟩
abbrev S1x1 : Shape := ⟨2, ![1, 1]⟩
abbrev S4x128x1024 : Shape := ⟨3, ![4, 128, 1024]⟩
abbrev S4x1x1024 : Shape := ⟨3, ![4, 1, 1024]⟩
abbrev S1x128x1024 : Shape := ⟨3, ![1, 128, 1024]⟩
abbrev S128x1024 : Shape := ⟨2, ![128, 1024]⟩
abbrev S128x4096 : Shape := ⟨2, ![128, 4096]⟩
abbrev S4096 : Shape := ⟨1, ![4096]⟩
abbrev S1x4096 : Shape := ⟨2, ![1, 4096]⟩
abbrev S1024x4096 : Shape := ⟨2, ![1024, 4096]⟩
abbrev S1x1024 : Shape := ⟨2, ![1, 1024]⟩
abbrev S1x1x1024 : Shape := ⟨3, ![1, 1, 1024]⟩
abbrev S1x128x4096 : Shape := ⟨3, ![1, 128, 4096]⟩
abbrev S1 : Shape := ⟨1, ![1]⟩
abbrev S1x1x1 : Shape := ⟨3, ![1, 1, 1]⟩
abbrev S16x1024 : Shape := ⟨2, ![16, 1024]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S16x128x32x32, .f32⟩
  | .hbm, ⟨1, _⟩ => ⟨S1024x128, .f32⟩
  | .hbm, ⟨2, _⟩ => ⟨S16x128x1024, .f32⟩
  | .hbm, ⟨3, _⟩ => ⟨S1024, .f32⟩
  | .hbm, ⟨4, _⟩ => ⟨S1024x1, .f32⟩
  | .hbm, ⟨5, _⟩ => ⟨S1024x128, .bf16⟩
  | .hbm, ⟨6, _⟩ => ⟨S1024x128, .f32⟩
  | .hbm, ⟨7, _⟩ => ⟨S16x128x1024, .f32⟩
  | .hbm, ⟨8, _⟩ => ⟨S16x1x1024, .f32⟩
  | .hbm, ⟨9, _⟩ => ⟨S1x1, .f32⟩
  | .hbm, ⟨10, _⟩ => ⟨S16x128x32x32, .f32⟩
  | .hbm, ⟨11, _⟩ => ⟨S16x1024, .f32⟩
  | .hbm, ⟨12, _⟩ => ⟨S16x1024, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S4x128x1024, .f32⟩
  | .local _ .vmem, ⟨1, _⟩ => ⟨S4x128x1024, .f32⟩
  | .local _ .vmem, ⟨2, _⟩ => ⟨S1024x128, .f32⟩
  | .local _ .vmem, ⟨3, _⟩ => ⟨S1024x128, .bf16⟩
  | .local _ .vmem, ⟨4, _⟩ => ⟨S1024x1, .f32⟩
  | .local _ .vmem, ⟨5, _⟩ => ⟨S4x128x1024, .f32⟩
  | .local _ .vmem, ⟨6, _⟩ => ⟨S4x128x1024, .f32⟩
  | .local _ .vmem, ⟨7, _⟩ => ⟨S4x1x1024, .f32⟩
  | .local _ .vmem, ⟨8, _⟩ => ⟨S4x1x1024, .f32⟩
  | .local _ .vmem, ⟨9, _⟩ => ⟨S1x1, .f32⟩
  | _, _ => ⟨S16x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x128x32x32 : Shape := ⟨4, ![16, 128, 32, 32]⟩
abbrev S1024x128 : Shape := ⟨2, ![1024, 128]⟩
abbrev S_ : Shape := ⟨0, ![]⟩
abbrev S16x32x32x128 : Shape := ⟨4, ![16, 32, 32, 128]⟩
abbrev S16384x128 : Shape := ⟨2, ![16384, 128]⟩
abbrev S16384 : Shape := ⟨1, ![16384]⟩
abbrev S16384x1 : Shape := ⟨2, ![16384, 1]⟩
abbrev S1024 : Shape := ⟨1, ![1024]⟩
abbrev S128x1024 : Shape := ⟨2, ![128, 1024]⟩
abbrev S16384x1024 : Shape := ⟨2, ![16384, 1024]⟩
abbrev S1x1024 : Shape := ⟨2, ![1, 1024]⟩
abbrev S1 : Shape := ⟨1, ![1]⟩
abbrev S1x1 : Shape := ⟨2, ![1, 1]⟩
abbrev S16x1024 : Shape := ⟨2, ![16, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16x128x32x32, .f32⟩
  | .hbm, ⟨1, _⟩ => ⟨S1024x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S16x128x32x32, .i1⟩
  | .hbm, ⟨6, _⟩ => ⟨S_, .f32⟩
  | .hbm, ⟨7, _⟩ => ⟨S16x128x32x32, .f32⟩
  | .hbm, ⟨8, _⟩ => ⟨S16x128x32x32, .f32⟩
  | .hbm, ⟨9, _⟩ => ⟨S_, .f32⟩
  | .hbm, ⟨10, _⟩ => ⟨S16x128x32x32, .f32⟩
  | .hbm, ⟨11, _⟩ => ⟨S16x128x32x32, .i1⟩
  | .hbm, ⟨12, _⟩ => ⟨S_, .f32⟩
  | .hbm, ⟨13, _⟩ => ⟨S16x128x32x32, .f32⟩
  | .hbm, ⟨14, _⟩ => ⟨S16x128x32x32, .f32⟩
  | .hbm, ⟨15, _⟩ => ⟨S_, .f32⟩
  | .hbm, ⟨16, _⟩ => ⟨S16x128x32x32, .f32⟩
  | .hbm, ⟨17, _⟩ => ⟨S16x128x32x32, .i1⟩
  | .hbm, ⟨18, _⟩ => ⟨S_, .f32⟩
  | .hbm, ⟨19, _⟩ => ⟨S16x128x32x32, .f32⟩
  | .hbm, ⟨20, _⟩ => ⟨S16x128x32x32, .f32⟩
  | .hbm, ⟨21, _⟩ => ⟨S16x32x32x128, .f32⟩
  | .hbm, ⟨22, _⟩ => ⟨S16384x128, .f32⟩
  | .hbm, ⟨23, _⟩ => ⟨S16384x128, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S1024x128, .f32⟩
  | .hbm, ⟨28, _⟩ => ⟨S_, .f32⟩
  | .hbm, ⟨29, _⟩ => ⟨S1024, .f32⟩
  | .hbm, ⟨30, _⟩ => ⟨S128x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .i32⟩
  | .hbm, ⟨45, _⟩ => ⟨S_, .f32⟩
  | .hbm, ⟨46, _⟩ => ⟨S_, .i32⟩
  | .hbm, ⟨47, _⟩ => ⟨S16384, .f32⟩
  | .hbm, ⟨48, _⟩ => ⟨S16384, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S1, .i32⟩
  | .hbm, ⟨66, _⟩ => ⟨S_, .i32⟩
  | .hbm, ⟨67, _⟩ => ⟨S16384x1, .i32⟩
  | .hbm, ⟨68, _⟩ => ⟨S16384x1, .i1⟩
  | .hbm, ⟨69, _⟩ => ⟨S1x1, .i32⟩
  | .hbm, ⟨70, _⟩ => ⟨S16384x1, .i32⟩
  | .hbm, ⟨71, _⟩ => ⟨S16384x1, .i1⟩
  | .hbm, ⟨72, _⟩ => ⟨S16384x1, .i1⟩
  | .hbm, ⟨73, _⟩ => ⟨S_, .i1⟩
  | .hbm, ⟨74, _⟩ => ⟨S16384, .i1⟩
  | .hbm, ⟨75, _⟩ => ⟨S16384x128, .f32⟩
  | .hbm, ⟨76, _⟩ => ⟨S16384x128, .i1⟩
  | .hbm, ⟨77, _⟩ => ⟨S_, .f32⟩
  | .hbm, ⟨78, _⟩ => ⟨S16384x128, .f32⟩
  | .hbm, ⟨79, _⟩ => ⟨S16384x128, .f32⟩
  | .hbm, ⟨80, _⟩ => ⟨S16x32x32x128, .f32⟩
  | .hbm, ⟨81, _⟩ => ⟨S16x128x32x32, .f32⟩
  | .hbm, ⟨82, _⟩ => ⟨S16x128x32x32, .f32⟩
  | .hbm, ⟨83, _⟩ => ⟨S16x128x32x32, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S16x128x32x32, .f32⟩
  | .hbm, ⟨89, _⟩ => ⟨S16x128x32x32, .f32⟩
  | .hbm, ⟨90, _⟩ => ⟨S16x1024, .i32⟩
  | .hbm, ⟨91, _⟩ => ⟨S_, .f32⟩
  | .hbm, ⟨92, _⟩ => ⟨S_, .f32⟩
  | _, _ => ⟨S16x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_call0_v0 : Ref sig .tc := ⟨.hbm, 5, rfl⟩
abbrev main_call0_v1 : Ref sig .tc := ⟨.hbm, 6, rfl⟩
abbrev main_call0_call0_v0 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_call1_v0 : Ref sig .tc := ⟨.hbm, 13, rfl⟩
abbrev main_call0_v6 : Ref sig .tc := ⟨.hbm, 14, rfl⟩
abbrev main_call0_cst_0 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_call2_v0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_2 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_3 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_v17 : Ref sig .tc := ⟨.hbm, 43, rfl⟩
abbrev main_call2_v0 : Ref sig .tc := ⟨.hbm, 44, rfl⟩
abbrev main_call2_cst : Ref sig .tc := ⟨.hbm, 45, rfl⟩
abbrev main_call2_c : Ref sig .tc := ⟨.hbm, 46, rfl⟩
abbrev main_call2_v1_0 : Ref sig .tc := ⟨.hbm, 47, rfl⟩
abbrev main_v18 : Ref sig .tc := ⟨.hbm, 48, rfl⟩
abbrev main_c : Ref sig .tc := ⟨.hbm, 49, rfl⟩
abbrev main_c_6 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v19 : Ref sig .tc := ⟨.hbm, 56, rfl⟩
abbrev main_call4_c : Ref sig .tc := ⟨.hbm, 57, rfl⟩
abbrev main_call4_v0 : Ref sig .tc := ⟨.hbm, 58, rfl⟩
abbrev main_call4_v1 : Ref sig .tc := ⟨.hbm, 59, rfl⟩
abbrev main_call4_c_0 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_c_1 : Ref sig .tc := ⟨.hbm, 65, rfl⟩
abbrev main_call4_c_2 : Ref sig .tc := ⟨.hbm, 66, rfl⟩
abbrev main_call4_v6 : Ref sig .tc := ⟨.hbm, 67, rfl⟩
abbrev main_call4_v7 : Ref sig .tc := ⟨.hbm, 68, rfl⟩
abbrev main_call4_v8 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_3 : Ref sig .tc := ⟨.hbm, 73, rfl⟩
abbrev main_call4_v12 : Ref sig .tc := ⟨.hbm, 74, rfl⟩
abbrev main_call4_v13 : Ref sig .tc := ⟨.hbm, 75, rfl⟩
abbrev main_call4_v14 : Ref sig .tc := ⟨.hbm, 76, rfl⟩
abbrev main_call4_cst : Ref sig .tc := ⟨.hbm, 77, rfl⟩
abbrev main_call4_v15 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_7 : Ref sig .tc := ⟨.hbm, 84, rfl⟩
abbrev main_v25 : Ref sig .tc := ⟨.hbm, 85, rfl⟩
abbrev main_cst_8 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_cst_9 : Ref sig .tc := ⟨.hbm, 91, rfl⟩
abbrev main_v30 : Ref sig .tc := ⟨.hbm, 92, rfl⟩

abbrev nD : Nat := 1
abbrev τ : Topo := Topo.v7x

variable {F : FTy → Type} [FloatOps F]
-- ==== Proof.Nearest.lean ====
module

public import Idealize.ShloMosaic.Lib.Pointwise
public import Idealize.ShloMosaic.PureOps.Ideal
public import Idealize.ShloMosaic.Lib.IdealHost

@[expose] public section

set_option maxRecDepth 16384

noncomputable section

namespace Cert.Vq

open Idealize.ShloMosaic
open scoped BigOperators

/-! ## Constants -/

/-- The f32 pattern of plus infinity is the extended real `⊤`. -/
theorem inf_eq : Ideal.ofBits .f32 2139095040#32 = ⊤ := by simp [Ideal.ofBits, Ideal.ieee]

/-- The f32 pattern of minus infinity is the extended real `⊥`. -/
theorem negInf_eq : Ideal.ofBits .f32 4286578688#32 = ⊥ := by simp [Ideal.ofBits, Ideal.ieee]

/-- The f32 pattern of a quarter. -/
theorem quarter_eq : Ideal.ofBits .f32 1048576000#32 = (((1 : ℝ) / 4 : ℝ) : EReal) := by
  simp [Ideal.ofBits, Ideal.ieee, -EReal.coe_mul]; norm_num

/-- The f32 pattern of two. -/
theorem two_eq : Ideal.ofBits .f32 1073741824#32 = ((2 : ℝ) : EReal) := by
  simp [Ideal.ofBits, Ideal.ieee, -EReal.coe_mul]; norm_num

/-- The f32 pattern of 1024. -/
theorem kilo_eq : Ideal.ofBits .f32 1149239296#32 = ((1024 : ℝ) : EReal) := by
  simp [Ideal.ofBits, Ideal.ieee, -EReal.coe_mul]; norm_num

/-! ## Finite values -/

/-- Neither infinity. -/
def IsFin (x : EReal) : Prop := x ≠ ⊤ ∧ x ≠ ⊥

/-- A value whose magnitude is below infinity is neither infinity. -/
theorem isFin_of_abs_lt {x : EReal} (h : max x (-x) < ⊤) : IsFin x := by
  rw [max_lt_iff] at h
  refine ⟨h.1.ne, fun hb => ?_⟩
  rw [hb] at h
  exact absurd h.2 (by simp)

/-- A family of finite values is the family of some reals. -/
theorem exists_real {ι : Type} {f : ι → EReal} (h : ∀ i, IsFin (f i)) : ∃ g : ι → ℝ, f = fun i => (g i : EReal) :=
  ⟨fun i => (f i).toReal, funext fun i => (EReal.coe_toReal (h i).1 (h i).2).symm⟩

/-- The sum of reals as extended reals is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The reference's squared distance of two vectors, clipped below at 0. -/
def sqDist {n : ℕ} (z e : Fin n → EReal) : EReal :=
  max 0 (∑ i, z i * z i + ∑ i, e i * e i - Ideal.ofBits .f32 1073741824#32 * ∑ i, z i * e i)

/-- The kernel's squared distance, from the doubled code, is the reference's on finite vectors. -/
theorem doubled_eq_sqDist {n : ℕ} (z e : Fin n → EReal) (hz : ∀ i, IsFin (z i)) (he : ∀ i, IsFin (e i)) :
    ∑ i, z i * z i + (∑ i, (e i + e i) * (e i + e i)) * Ideal.ofBits .f32 1048576000#32
      - ∑ i, (e i + e i) * z i = sqDist z e := by
  obtain ⟨a, rfl⟩ := exists_real hz
  obtain ⟨b, rfl⟩ := exists_real he
  rw [sqDist, quarter_eq, two_eq]
  simp only [← EReal.coe_mul, ← EReal.coe_add, coe_sum, ← EReal.coe_sub]
  have h4 : ∑ i, (b i + b i) * (b i + b i) = 4 * ∑ i, b i * b i := by
    rw [Finset.mul_sum]; exact Finset.sum_congr rfl fun i _ => by ring
  have h2 : ∑ i, (b i + b i) * a i = 2 * ∑ i, a i * b i := by
    rw [Finset.mul_sum]; exact Finset.sum_congr rfl fun i _ => by ring
  have hpos : 0 ≤ ∑ i, a i * a i + ∑ i, b i * b i - 2 * ∑ i, a i * b i := by
    have : ∑ i, a i * a i + ∑ i, b i * b i - 2 * ∑ i, a i * b i = ∑ i, (a i - b i) * (a i - b i) := by
      rw [Finset.mul_sum, ← Finset.sum_add_distrib, ← Finset.sum_sub_distrib]
      exact Finset.sum_congr rfl fun i _ => by ring
    rw [this]
    exact Finset.sum_nonneg fun i _ => mul_self_nonneg _
  rw [max_eq_right (EReal.coe_nonneg.mpr hpos), h4, h2]
  congr 1
  ring

/-- The distance of finite vectors is below infinity. -/
theorem sqDist_lt_top {n : ℕ} (z e : Fin n → EReal) (hz : ∀ i, IsFin (z i)) (he : ∀ i, IsFin (e i)) :
    sqDist z e < ⊤ := by
  obtain ⟨a, rfl⟩ := exists_real hz
  obtain ⟨b, rfl⟩ := exists_real he
  rw [sqDist, two_eq]
  simp only [← EReal.coe_mul, ← EReal.coe_add, coe_sum, ← EReal.coe_sub]
  exact max_lt (by simp) (EReal.coe_lt_top _)

/-! ## The first smallest entry -/

/-- `n` is the first position of the smallest entry. -/
def IsFirst {N : ℕ} (d : Fin N → EReal) (n : Fin N) : Prop := ∀ k, d n < d k ∨ (d n = d k ∧ n ≤ k)

/-- A nonempty row has a first smallest entry. -/
theorem exists_first {N : ℕ} (hN : 0 < N) (d : Fin N → EReal) : ∃ n, IsFirst d n := by
  have hne : (Finset.univ : Finset (Fin N)).Nonempty := ⟨⟨0, hN⟩, Finset.mem_univ _⟩
  obtain ⟨n, -, hn⟩ := Finset.exists_min_image Finset.univ (fun k => toLex (d k, k)) hne
  exact ⟨n, fun k => Prod.Lex.le_iff.mp (hn k (Finset.mem_univ k))⟩

/-- The minimum over a row, starting from infinity, is its first smallest entry. -/
theorem fold_min_eq {N : ℕ} (d : Fin N → EReal) (n : Fin N) (hn : IsFirst d n) :
    Finset.fold min (⊤ : EReal) d Finset.univ = d n := by
  refine le_antisymm ?_ ?_
  · exact (Finset.fold_min_le _).mpr (Or.inr ⟨n, Finset.mem_univ n, le_rfl⟩)
  · refine (Finset.le_fold_min _).mpr ⟨le_top, fun k _ => ?_⟩
    rcases hn k with h | h
    · exact h.le
    · exact h.1.le

/-- The smallest index among those whose entry is the smallest is the first. -/
theorem fold_index_eq {N : ℕ} (d : Fin N → EReal) (n : Fin N) (hn : IsFirst d n) (big : EReal)
    (hbig : (((n.val : ℝ)) : EReal) ≤ big) :
    Finset.fold min (⊤ : EReal) (fun k => if d k = d n then (((k.val : ℝ)) : EReal) else big) Finset.univ
      = (((n.val : ℝ)) : EReal) := by
  refine le_antisymm ?_ ?_
  · exact (Finset.fold_min_le _).mpr (Or.inr ⟨n, Finset.mem_univ n, by simp⟩)
  · refine (Finset.le_fold_min _).mpr ⟨le_top, fun k _ => ?_⟩
    by_cases h : d k = d n
    · rw [if_pos h]
      rcases hn k with h' | h'
      · exact absurd h'.ne (by simp [h])
      · exact EReal.coe_le_coe_iff.mpr (by exact_mod_cast h'.2)
    · rw [if_neg h]; exact hbig

/-- A fold that keeps the smaller (value, index) pair, over pairs of a row that include the first smallest, ends at
    that one: `step` need only be known on pairs of the row. -/
theorem foldl_first {N : ℕ} {β : Type} (d : Fin N → EReal) (ix : Fin N → β) (n : Fin N) (hn : IsFirst d n)
    (step : EReal × β → EReal × β → EReal × β)
    (hstep : ∀ a b, step (d a, ix a) (d b, ix b)
      = if d a < d b ∨ (d a = d b ∧ a < b) then (d a, ix a) else (d b, ix b)) :
    ∀ (L : List (Fin N)) (a : Fin N), ∃ b, (L.map fun k => (d k, ix k)).foldl step (d a, ix a) = (d b, ix b)
      ∧ ((a = n ∨ n ∈ L) → b = n) := by
  intro L
  induction L with
  | nil => exact fun a => ⟨a, rfl, fun h => h.elim id fun h => absurd h List.not_mem_nil⟩
  | cons k L ih =>
    intro a
    rw [List.map_cons, List.foldl_cons, hstep]
    by_cases hc : d a < d k ∨ (d a = d k ∧ a < k)
    · rw [if_pos hc]
      obtain ⟨b, hb, hbn⟩ := ih a
      refine ⟨b, hb, fun h => hbn ?_⟩
      rcases h with h | h
      · exact Or.inl h
      · rcases List.mem_cons.mp h with h | h
        · subst h
          rcases hc with hc | hc
          · rcases hn a with h' | h'
            · exact absurd h' hc.not_gt
            · exact absurd h'.1 hc.ne'
          · rcases hn a with h' | h'
            · exact absurd hc.1 h'.ne'
            · exact absurd h'.2 (not_le.mpr hc.2)
        · exact Or.inr h
    · rw [if_neg hc]
      obtain ⟨b, hb, hbn⟩ := ih k
      refine ⟨b, hb, fun h => hbn ?_⟩
      rcases h with h | h
      · subst h
        rcases hn k with h' | h'
        · exact absurd (Or.inl h') hc
        · rcases lt_or_eq_of_le h'.2 with h'' | h''
          · exact absurd (Or.inr ⟨h'.1, h''⟩) hc
          · exact Or.inl h''.symm
      · rcases List.mem_cons.mp h with h | h
        · exact Or.inl h.symm
        · exact Or.inr h

/-! ## Index words -/

/-- A small natural's word reads back as the natural. -/
theorem toInt_ofNat {k : ℕ} (hk : k < 1024) : (BitVec.ofNat 32 k).toInt = (k : ℤ) := by
  rw [BitVec.toInt_eq_toNat_cond, BitVec.toNat_ofNat, Nat.mod_eq_of_lt (by omega)]
  rw [if_pos (by omega)]

/-- A small natural's word as a float is the natural. -/
theorem sitofp_ofNat {k : ℕ} (hk : k < 1024) :
    (FloatOps.sitofp (F := Ideal) .f32 (BitVec.ofNat 32 k) : EReal) = ((k : ℝ) : EReal) := by
  show ((((BitVec.ofNat 32 k).toInt : ℝ)) : EReal) = _
  rw [toInt_ofNat hk]; norm_cast

/-- A small natural as a float is the natural's word as an integer. -/
theorem fptosi_nat {k : ℕ} (hk : k < 1024) :
    Ideal.fptosi 32 (((k : ℝ)) : EReal) = BitVec.ofNat 32 k := by
  rw [Ideal.fptosi, Ideal.toIntClamped_coe, if_pos (by positivity), Int.floor_natCast, min_eq_right, max_eq_right]
  · exact BitVec.ofInt_natCast 32 k
  · have : ((2 ^ (32 - 1) : ℕ) : ℤ) = 2147483648 := by norm_num
    omega
  · have : ((2 ^ (32 - 1) : ℕ) : ℤ) = 2147483648 := by norm_num
    omega

/-- The float of a comparison's bit, widened to a word. -/
theorem sitofp_ofBool (b : Bool) :
    (FloatOps.sitofp (F := Ideal) .f32 (BitVec.setWidth 32 (BitVec.ofBool b)) : EReal) = if b then 1 else 0 := by
  cases b
  · show ((((BitVec.setWidth 32 (BitVec.ofBool false)).toInt : ℝ)) : EReal) = _
    rw [show (BitVec.setWidth 32 (BitVec.ofBool false)).toInt = 0 by decide]; simp
  · show ((((BitVec.setWidth 32 (BitVec.ofBool true)).toInt : ℝ)) : EReal) = _
    rw [show (BitVec.setWidth 32 (BitVec.ofBool true)).toInt = 1 by decide]; simp

/-- A contraction with a one-hot column picks the marked entry. -/
theorem onehot_sum {N : ℕ} (w : Fin N → EReal) (n : Fin N) :
    ∑ k : Fin N, w k * (FloatOps.sitofp (F := Ideal) .f32 (BitVec.setWidth 32 (BitVec.ofBool
      (decide (((k.val : ℝ) : EReal) = ((n.val : ℝ) : EReal))))) : EReal) = w n := by
  rw [Finset.sum_eq_single n]
  · rw [sitofp_ofBool]; simp
  · intro k _ hk
    rw [sitofp_ofBool]
    have : ¬ (((k.val : ℝ) : EReal) = ((n.val : ℝ) : EReal)) := by
      intro h
      rw [EReal.coe_eq_coe_iff] at h
      exact hk (Fin.ext (by exact_mod_cast h))
    rw [decide_eq_false this]
    simp
  · exact fun h => absurd (Finset.mem_univ n) h

end Cert.Vq
end
-- ==== Proof.Finite.lean ====
module

public import proofs.«01_k».proof.Defs
public import proofs.«01_k».proof.Proof.Nearest
public import Idealize.ShloMosaic.Lib.ReduceAll

@[expose] public section

set_option maxRecDepth 16384

noncomputable section

namespace Cert.Pre_finite

open Idealize.ShloMosaic Cert.Vq

/-- The shape relations the precondition states. -/
theorem facts : Facts := ⟨by decide, by decide, by decide, by decide, by decide⟩

/-- An element below infinity in absolute value, as the precondition compares it, is finite. -/
theorem isFin_of_cmp {s : Shape} (h : S_.BroadcastsInDim s (![] : Fin 0 → Fin s.rank)) (x : FVec Ideal s .f32) (i : s.Idx)
    (e : cmpf .olt (Host.absf x) (broadcastInDim s ![] h (constant S_ .f32 0x7F800000#32)) i = 1#1) : IsFin (x i) := by
  refine isFin_of_abs_lt ?_
  have e' : Ideal.cmp .olt (max (x i) (-(x i))) (Ideal.ofBits .f32 2139095040#32) = 1#1 := e
  rw [inf_eq] at e'
  by_contra hn
  unfold Ideal.cmp at e'
  simp [hn] at e'

/-- Where the precondition is one, every element of both arguments is finite. -/
theorem isFin_of_fn [Facts] (z : FVec Ideal S16x128x32x32 .f32) (e : FVec Ideal S1024x128 .f32)
    (h : fn (F := Ideal) z e = fun _ => 1#1) : (∀ j, IsFin (z j)) ∧ ∀ j, IsFin (e j) := by
  have h0 := congrFun h ix0
  dsimp only [fn] at h0
  obtain ⟨h1, h2⟩ := IntOp.andi_eq_one.1 h0
  haveI : Subsingleton S_.Idx := ⟨fun a b => funext fun k => k.elim0⟩
  exact ⟨fun j => isFin_of_cmp _ z j (Host.reduce_andi_all _ _ _ _ _ h1 j),
    fun j => isFin_of_cmp _ e j (Host.reduce_andi_all _ _ _ _ _ h2 j)⟩

end Cert.Pre_finite
end
-- ==== Proof.RefRun.lean ====
module

public import proofs.«01_k».proof.Defs
public import proofs.«01_k».proof.Proof.Gen.ReferenceIdeal
public import Idealize.ShloMosaic.Lib.Claim
public import Idealize.ShloMosaic.Lib.StableHlo.RunHlo

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable {F : FTy → Type} [FloatOps F]

/-- `jnp.nan_to_num` of the first argument: a NaN becomes 0, an infinity becomes 1 or -1. -/
def cleaned (z : FVec F S16x128x32x32 .f32) : FVec F S16x128x32x32 .f32 :=
  let a := select (cmpf .une z z)
    (broadcastInDim S16x128x32x32 ![] bcast_S_S16x128x32x32 (constant S_ .f32 0x00000000#32)) z
  let b := select (cmpf .oeq a
      (broadcastInDim S16x128x32x32 ![] bcast_S_S16x128x32x32 (constant S_ .f32 0x7F800000#32)))
    (broadcastInDim S16x128x32x32 ![] bcast_S_S16x128x32x32 (constant S_ .f32 0x3F800000#32)) a
  select (cmpf .oeq b
      (broadcastInDim S16x128x32x32 ![] bcast_S_S16x128x32x32 (constant S_ .f32 0xFF800000#32)))
    (broadcastInDim S16x128x32x32 ![] bcast_S_S16x128x32x32 (constant S_ .f32 0xBF800000#32)) b

/-- The vectors to be quantised, one a row. -/
def flat (z : FVec F S16x128x32x32 .f32) : FVec F S16384x128 .f32 :=
  shapeCast S16384x128
    (transpose S16x32x32x128 [0, 2, 3, 1] z transposes_S16x128x32x32_S16x32x32x128_0_2_3_1)
    shapeCasts_S16x32x32x128_S16384x128

/-- The squared distances of every row to every code, clipped below at 0. -/
def dist (x : FVec F S16384x128 .f32) (e : FVec F S1024x128 .f32) : FVec F S16384x1024 .f32 :=
  maximumf (broadcastInDim S16384x1024 ![] bcast_S_S16384x1024 (constant S_ .f32 0x00000000#32))
    (subf
      (addf
        (broadcastInDim S16384x1024 ![0, 1] bcast_S16384x1_S16384x1024_0_1
          (broadcastInDim S16384x1 ![0] bcast_S16384_S16384x1_0
            (Host.reduceAdd (mulf x x) (constant S_ .f32 0x00000000#32)
              reducesTo_S16384x128_S16384_d1 h_S_)))
        (broadcastInDim S16384x1024 ![0, 1] bcast_S1x1024_S16384x1024_0_1
          (broadcastInDim S1x1024 ![1] bcast_S1024_S1x1024_1
            (Host.reduceAdd (mulf e e) (constant S_ .f32 0x00000000#32)
              reducesTo_S1024x128_S1024_d1 h_S_))))
      (mulf (broadcastInDim S16384x1024 ![] bcast_S_S16384x1024 (constant S_ .f32 0x40000000#32))
        (Host.dotGeneral dot_S16384x128_S128x1024_S16384x1024_1_0_0_1_n_n none x
          (transpose S128x1024 [1, 0] e transposes_S1024x128_S128x1024_1_0))))

/-- The index of the smallest entry of every row. -/
def nearest (d : FVec F S16384x1024 .f32) : IVec S16384 32 := fun j =>
  (Host.argReduce reducer_argmin_f32_i32 d (iotaInDim S16384x1024 32 1)
    (constant S_ .f32 0x7F800000#32) (constantI S_ 32 0#32)
    reducesTo_S16384x1024_S16384_d1 h_S_ j).2

/-- The indices clipped to the codebook's range. -/
def clipped (n : IVec S16384 32) : IVec S16384 32 :=
  minsi (broadcastInDim S16384 ![] bcast_S_S16384 (constantI S_ 32 1023#32))
    (maxsi (broadcastInDim S16384 ![] bcast_S_S16384 (constantI S_ 32 0#32)) n)

/-- The column of row numbers `jnp.take` gathers at: a negative index counts from the end. -/
def wrapped (n : IVec S16384 32) : IVec S16384x1 32 :=
  broadcastInDim S16384x1 ![0] bcast_S16384_S16384x1_0
    (select (cmpi .slt n (broadcastInDim S16384 ![] bcast_S_S16384 (constantI S_ 32 0#32)))
      (addi n (broadcastInDim S16384 ![] bcast_S_S16384 (constantI S_ 32 1024#32))) n)

/-- `jnp.take` of rows of the codebook, NaN where the row number is out of range. -/
def taken (e : FVec F S1024x128 .f32) (w : IVec S16384x1 32) : FVec F S16384x128 .f32 :=
  select
    (broadcastInDim S16384x128 ![0] bcast_S16384_S16384x128_0
      (Host.reduce IntOp.andi
        (andi
          (cmpi .sge w (broadcastInDim S16384x1 ![] bcast_S_S16384x1 (constantI S_ 32 0#32)))
          (cmpi .sle w
            (broadcastInDim S16384x1 ![0, 1] bcast_S1x1_S16384x1_0_1
              (broadcastInDim S1x1 ![1] bcast_S1_S1x1_1 (constantI S1 32 1023#32)))))
        (constantI S_ 1 1#1) reducesTo_S16384x1_S16384_d1 h_S_))
    (Host.gather gather_S1024x128_S16384x1_S16384x128_1_0_n_n_0_1_1128 e w)
    (broadcastInDim S16384x128 ![] bcast_S_S16384x128 (constant S_ .f32 0x7FC00000#32))

/-- The rows laid out like the first argument. -/
def laid (q : FVec F S16384x128 .f32) : FVec F S16x128x32x32 .f32 :=
  transpose S16x128x32x32 [0, 3, 1, 2]
    (shapeCast S16x32x32x128 q shapeCasts_S16384x128_S16x32x32x128)
    transposes_S16x32x32x128_S16x128x32x32_0_3_1_2

/-- A quarter of the mean of the squares. -/
def loss (d : FVec F S16x128x32x32 .f32) : FVec F S_ .f32 :=
  mulf (Host.divf
      (Host.reduceAdd (mulf d d) (constant S_ .f32 0x00000000#32)
        reducesTo_S16x128x32x32_S_d0_1_2_3 h_S_)
      (constant S_ .f32 0x4A000000#32))
    (constant S_ .f32 0x3E800000#32)

/-- The clipped indices of the nearest codes, from the arguments. -/
def codes (z : FVec F S16x128x32x32 .f32) (e : FVec F S1024x128 .f32) : IVec S16384 32 :=
  clipped (nearest (dist (flat (cleaned z)) e))

/-- The quantised array, from the arguments. -/
def quantised (z : FVec F S16x128x32x32 .f32) (e : FVec F S1024x128 .f32) :
    FVec F S16x128x32x32 .f32 :=
  laid (taken e (wrapped (codes z e)))

/-- The reference's run: its three results, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) =
          addf (cleaned (m ((c.tc : Thread nD τ).loc main_arg0)))
            (subf (quantised (m ((c.tc : Thread nD τ).loc main_arg0))
                (m ((c.tc : Thread nD τ).loc main_arg1)))
              (cleaned (m ((c.tc : Thread nD τ).loc main_arg0)))) ∧
      r.2.mem ((c.tc : Thread nD τ).loc main_v29) =
          shapeCast S16x1024 (codes (m ((c.tc : Thread nD τ).loc main_arg0))
            (m ((c.tc : Thread nD τ).loc main_arg1))) shapeCasts_S16384_S16x1024 ∧
      r.2.mem ((c.tc : Thread nD τ).loc main_v30) =
          loss (subf (quantised (m ((c.tc : Thread nD τ).loc main_arg0))
                (m ((c.tc : Thread nD τ).loc main_arg1)))
              (cleaned (m ((c.tc : Thread nD τ).loc main_arg0)))) ∧
      r.2.mem ((c.tc : Thread nD τ).loc main_arg0) = m ((c.tc : Thread nD τ).loc main_arg0) ∧
      r.2.mem ((c.tc : Thread nD τ).loc main_arg1) = m ((c.tc : Thread nD τ).loc main_arg1) := by
  hlo_run
  all_goals simp -implicitDefEqProofs only [StableHlo.TRef.ofBuf, StableHlo.TRef.toBuf, cast_cast, cast_eq]
  all_goals rfl

end Cert.ReferenceIdeal.Value
end
-- ==== Proof.Spec.lean ====
module

public import proofs.«01_k».proof.Proof.Nearest

@[expose] public section

set_option maxRecDepth 16384

noncomputable section

namespace Cert.Vq

open Idealize.ShloMosaic
open scoped BigOperators

/-- The images: batch, channel, height, width. -/
abbrev Img : Type := (⟨4, ![16, 128, 32, 32]⟩ : Shape).Idx → EReal

/-- The codebook: a code a row. -/
abbrev Book : Type := (⟨2, ![1024, 128]⟩ : Shape).Idx → EReal

/-- The vector at batch `a`, pixel `p` (row-major over height and width). -/
def pix (z : Img) (a : Fin 16) (p : Fin 1024) : Fin 128 → EReal := fun k =>
  z (ix4 a k (⟨p.val / 32, by omega⟩ : Fin 32) (⟨p.val % 32, by omega⟩ : Fin 32))

/-- The distances of one pixel's vector to every code. -/
def dists (z : Img) (e : Book) (a : Fin 16) (p : Fin 1024) : Fin 1024 → EReal := fun k =>
  sqDist (pix z a p) fun i => e (ix2 k i)

/-- The first nearest code of a pixel. -/
def code (z : Img) (e : Book) (a : Fin 16) (p : Fin 1024) : Fin 1024 :=
  (exists_first (by norm_num) (dists z e a p)).choose

/-- The chosen code is the first nearest. -/
theorem code_first (z : Img) (e : Book) (a : Fin 16) (p : Fin 1024) : IsFirst (dists z e a p) (code z e a p) :=
  (exists_first (by norm_num) (dists z e a p)).choose_spec

/-- The chosen code minus the pixel, at one channel. -/
def diff (z : Img) (e : Book) (a : Fin 16) (p : Fin 1024) (b : Fin 128) : EReal :=
  e (ix2 (code z e a p) b) - pix z a p b

/-- The sum of the squared differences. -/
def total (z : Img) (e : Book) : EReal :=
  ∑ a : Fin 16, ∑ b : Fin 128, ∑ p : Fin 1024, diff z e a p b * diff z e a p b

/-- A quarter of the mean squared difference. -/
def lossOf (z : Img) (e : Book) : EReal :=
  Ideal.div (total z e) (Ideal.ofBits .f32 1241513984#32) * Ideal.ofBits .f32 1048576000#32

/-- A pixel of an image, from its height and width. -/
def at2 (h w : Fin 32) : Fin 1024 := ⟨h.val * 32 + w.val, by omega⟩

/-- A pixel's vector, by height and width. -/
theorem pix_at2 (z : Img) (a : Fin 16) (h w : Fin 32) (b : Fin 128) : pix z a (at2 h w) b = z (ix4 a b h w) := by
  have h1 : (at2 h w).val / 32 = h.val := by show (h.val * 32 + w.val) / 32 = _; omega
  have h2 : (at2 h w).val % 32 = w.val := by show (h.val * 32 + w.val) % 32 = _; omega
  unfold pix
  congr 1
  congr 1
  · exact Fin.ext h1
  · exact Fin.ext h2

/-- Pixels are heights and widths. -/
def hw : Fin 32 × Fin 32 ≃ Fin 1024 where
  toFun x := at2 x.1 x.2
  invFun p := (⟨p.val / 32, by omega⟩, ⟨p.val % 32, by omega⟩)
  left_inv x := by
    refine Prod.ext (Fin.ext ?_) (Fin.ext ?_)
    · show (x.1.val * 32 + x.2.val) / 32 = _; omega
    · show (x.1.val * 32 + x.2.val) % 32 = _; omega
  right_inv p := Fin.ext (by show p.val / 32 * 32 + p.val % 32 = _; omega)

/-- A sum over heights and widths is a sum over pixels. -/
theorem sum_hw (f : Fin 1024 → EReal) : ∑ h : Fin 32, ∑ w : Fin 32, f (at2 h w) = ∑ p : Fin 1024, f p := by
  rw [← Fintype.sum_prod_type']
  exact Equiv.sum_comp hw f

end Cert.Vq
end
-- ==== Proof.ArgMin.lean ====
module

public import proofs.«01_k».proof.Proof.Nearest

@[expose] public section

set_option maxRecDepth 16384

noncomputable section

namespace Cert.Vq

open Idealize.ShloMosaic

/-- Dropping the column of a matrix index leaves its row. -/
theorem drop_row {R K : ℕ} (h : (⟨2, ![R, K]⟩ : Shape).ReducesTo [1] ⟨1, ![R]⟩) (a : Fin R) (k : Fin K) :
    h.drop (ix2 a k) = ix1 a := by
  funext b
  match b with
  | ⟨0, _⟩ => rfl

/-- The pairs a row reduction meets are those of the row, every column among them. -/
theorem fiber_row {R K : ℕ} {α β : Type} (h : (⟨2, ![R, K]⟩ : Shape).ReducesTo [1] ⟨1, ![R]⟩)
    (x : (⟨2, ![R, K]⟩ : Shape).Idx → α) (y : (⟨2, ![R, K]⟩ : Shape).Idx → β) (r : Fin R) :
    ∃ L : List (Fin K), Host.argReduceFiber x y h (ix1 r) = (L.map fun k => (x (ix2 r k), y (ix2 r k)))
      ∧ ∀ k, k ∈ L := by
  let col : Fin (⟨2, ![R, K]⟩ : Shape).numel → Fin K := fun i => ((⟨2, ![R, K]⟩ : Shape).rowMajor.symm i) 1
  refine ⟨((List.finRange (⟨2, ![R, K]⟩ : Shape).numel).filter fun i =>
    h.drop ((⟨2, ![R, K]⟩ : Shape).rowMajor.symm i) = ix1 r).map col, ?_, fun k => ?_⟩
  · unfold Host.argReduceFiber
    rw [List.map_map]
    refine List.map_congr_left fun i hi => ?_
    have hd := of_decide_eq_true (List.mem_filter.mp hi).2
    obtain ⟨q, hy⟩ : ∃ q : Fin R, (⟨2, ![R, K]⟩ : Shape).rowMajor.symm i = ix2 q (col i) := ⟨_, eq_ix2 _⟩
    have h0 : q = r := congrFun ((drop_row h q (col i)).symm.trans ((congrArg h.drop hy).symm.trans hd)) 0
    rw [h0] at hy
    rw [hy]
    rfl
  · refine List.mem_map.mpr ⟨(⟨2, ![R, K]⟩ : Shape).rowMajor (ix2 r k), List.mem_filter.mpr ⟨List.mem_finRange _, ?_⟩, ?_⟩
    · rw [Equiv.symm_apply_apply]
      exact decide_eq_true (drop_row h r k)
    · show ((⟨2, ![R, K]⟩ : Shape).rowMajor.symm _) 1 = k
      rw [Equiv.symm_apply_apply]
      rfl

/-- A fold over the pairs of a row, by a step that keeps the earlier smaller of two of them and takes the first one
    over the initial pair, ends at the first smallest entry. -/
theorem foldl_row {K : ℕ} {β : Type} (d : Fin K → EReal) (ix : Fin K → β) (init : EReal × β)
    (step : EReal × β → EReal × β → EReal × β) (n : Fin K) (hn : IsFirst d n)
    (hinit : ∀ b, step init (d b, ix b) = (d b, ix b))
    (hstep : ∀ a b, step (d a, ix a) (d b, ix b)
      = if d a < d b ∨ (d a = d b ∧ a < b) then (d a, ix a) else (d b, ix b))
    (L : List (Fin K)) (hmem : ∀ k, k ∈ L) :
    (L.map fun k => (d k, ix k)).foldl step init = (d n, ix n) := by
  cases L with
  | nil => exact absurd (hmem n) List.not_mem_nil
  | cons k L =>
    rw [List.map_cons, List.foldl_cons, hinit k]
    obtain ⟨b, hb, hbn⟩ := foldl_first d ix n hn step hstep L k
    rw [hb, hbn ((List.mem_cons.mp (hmem n)).imp Eq.symm id)]

end Cert.Vq
end
-- ==== Proof.RefValue.lean ====
module

public import proofs.«01_k».proof.Proof.RefRun
public import proofs.«01_k».proof.Proof.Spec
public import proofs.«01_k».proof.Proof.ArgMin
public import Idealize.ShloMosaic.Lib.Routing.Ops

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Vq
open scoped BigOperators

/-- Finite images are cleaned to themselves. -/
theorem cleaned_eq (z : FVec Ideal S16x128x32x32 .f32) (hz : ∀ j, IsFin (z j)) : cleaned z = z := by
  funext j
  have h1 : z j ≠ ⊤ := (hz j).1
  have h2 : z j ≠ ⊥ := (hz j).2
  pointwise [cleaned]
  rw [inf_eq, negInf_eq]
  simp [h1, h2]

/-- The batch of a row of flattened pixels. -/
def bat (r : Fin 16384) : Fin 16 := ⟨r.val / 1024, by omega⟩

/-- The pixel of a row of flattened pixels. -/
def px (r : Fin 16384) : Fin 1024 := ⟨r.val % 1024, by omega⟩

/-- A row of the flattened images is a pixel's vector. -/
theorem flat_apply (z : FVec Ideal S16x128x32x32 .f32) (r : Fin 16384) (k : Fin 128) :
    flat z (ix2 r k) = pix z (bat r) (px r) k := by
  pointwise [flat]
  unfold pix
  congr 1
  have h1 : r.val / 32 % 32 = r.val % 1024 / 32 := by omega
  have h2 : r.val % 32 = r.val % 1024 % 32 := by omega
  congr 1
  · exact Fin.ext h1
  · exact Fin.ext h2

/-- The reference's distances are the specification's. -/
theorem dist_apply (z : FVec Ideal S16x128x32x32 .f32) (e : FVec Ideal S1024x128 .f32) (r : Fin 16384) (k : Fin 1024) :
    dist (flat z) e (ix2 r k) = dists z e (bat r) (px r) k := by
  have h : ∀ i, flat z (ix2 r i) = pix z (bat r) (px r) i := flat_apply z r
  unfold dists sqDist
  simp only [← h]
  generalize flat z = x
  pointwise [dist]

/-- One step of the reference's argmin on two entries of a row keeps the earlier smaller one. -/
theorem reducer_step (d : Fin 1024 → EReal) (a b : Fin 1024) :
    reducer_argmin_f32_i32 (F := Ideal) (d a, BitVec.ofNat 32 a.val) (d b, BitVec.ofNat 32 b.val)
      = if d a < d b ∨ (d a = d b ∧ a < b) then (d a, BitVec.ofNat 32 a.val) else (d b, BitVec.ofNat 32 b.val) := by
  have hs : (BitVec.ofNat 32 a.val).slt (BitVec.ofNat 32 b.val) = decide (a < b) := by
    rw [BitVec.slt_eq_decide, toInt_ofNat a.isLt, toInt_ofNat b.isLt]
    simp
  rcases lt_trichotomy (d a) (d b) with h | h | h
  · simp [reducer_argmin_f32_i32, Ideal.cmpf_def, Ideal.cmp, IntOp.ori, IntOp.andi, IntOp.cmpi, Scalar.select, h, h.ne, hs]
  · by_cases hab : a < b
    · simp [reducer_argmin_f32_i32, Ideal.cmpf_def, Ideal.cmp, IntOp.ori, IntOp.andi, IntOp.cmpi, Scalar.select, h, hs, hab]
    · simp [reducer_argmin_f32_i32, Ideal.cmpf_def, Ideal.cmp, IntOp.ori, IntOp.andi, IntOp.cmpi, Scalar.select, h, hs, hab]
  · simp [reducer_argmin_f32_i32, Ideal.cmpf_def, Ideal.cmp, IntOp.ori, IntOp.andi, IntOp.cmpi, Scalar.select, h.not_gt, h.ne', hs]

/-- The first step, from the initial pair, takes an entry below infinity. -/
theorem reducer_init (d : Fin 1024 → EReal) (b : Fin 1024) (hb : d b < ⊤) :
    reducer_argmin_f32_i32 (F := Ideal) (⊤, 0#32) (d b, BitVec.ofNat 32 b.val) = (d b, BitVec.ofNat 32 b.val) := by
  simp [reducer_argmin_f32_i32, Ideal.cmpf_def, Ideal.cmp, IntOp.ori, IntOp.andi, IntOp.cmpi, Scalar.select, hb.ne']

/-- The initial value of the argmin is infinity. -/
theorem init_value (j : S_.Idx) : (constant (F := Ideal) S_ .f32 0x7F800000#32 j : EReal) = ⊤ := by
  rw [← inf_eq]
  rfl

/-- The pairs the argmin meets at a row are the row's entries with their columns. -/
theorem nearest_fiber (D : FVec Ideal S16384x1024 .f32) (r : Fin 16384) :
    ∃ L : List (Fin 1024), Host.argReduceFiber D (iotaInDim S16384x1024 32 1) reducesTo_S16384x1024_S16384_d1 (ix1 r)
      = (L.map fun k => (D (ix2 r k), BitVec.ofNat 32 k.val)) ∧ ∀ k, k ∈ L :=
  fiber_row (α := Ideal .f32) reducesTo_S16384x1024_S16384_d1 D (iotaInDim S16384x1024 32 1) r

/-- The argmin's value and index at every row. -/
theorem nearest_eq (D : FVec Ideal S16384x1024 .f32) :
    nearest D = fun j => (Host.argReduce (reducer_argmin_f32_i32 (F := Ideal)) D (iotaInDim S16384x1024 32 1)
      (constant S_ .f32 0x7F800000#32) (constantI S_ 32 0#32) reducesTo_S16384x1024_S16384_d1 h_S_ j).2 := rfl

/-- The second components of a family of pairs, at an index where the pair is known. -/
theorem snd_at {ι α β : Type} (f : ι → α × β) (j : ι) (a : α) (q : β) (h : f j = (a, q)) :
    (fun j => (f j).2) j = q := by
  show (f j).2 = q
  rw [h]

/-- The argmin's pair at a row below infinity is its first smallest entry with its column. -/
theorem pair_apply (D : FVec Ideal S16384x1024 .f32) (r : Fin 16384) (n : Fin 1024)
    (hlt : ∀ k, D (ix2 r k) < (⊤ : EReal)) (hn : IsFirst (fun k => (D (ix2 r k) : EReal)) n) :
    Host.argReduce (reducer_argmin_f32_i32 (F := Ideal)) D (iotaInDim S16384x1024 32 1)
      (constant S_ .f32 0x7F800000#32) (constantI S_ 32 0#32) reducesTo_S16384x1024_S16384_d1 h_S_ (ix1 r)
      = ((D (ix2 r n) : EReal), BitVec.ofNat 32 n.val) := by
  rw [Ideal.argReduce_eq_reduce2, Host.reduce2_eq_foldl_fiber, init_value]
  obtain ⟨L, hL, hmem⟩ := nearest_fiber D r
  rw [hL]
  exact foldl_row (fun k => (D (ix2 r k) : EReal)) (fun k : Fin 1024 => BitVec.ofNat 32 k.val) (⊤, 0#32)
    (reducer_argmin_f32_i32 (F := Ideal)) n hn (fun b => reducer_init (fun k => (D (ix2 r k) : EReal)) b (hlt b))
    (reducer_step fun k => (D (ix2 r k) : EReal)) L hmem

/-- The reference's argmin of a row below infinity is its first smallest entry. -/
theorem nearest_apply (D : FVec Ideal S16384x1024 .f32) (r : Fin 16384) (n : Fin 1024)
    (hlt : ∀ k, D (ix2 r k) < (⊤ : EReal)) (hn : IsFirst (fun k => (D (ix2 r k) : EReal)) n) :
    nearest D (ix1 r) = BitVec.ofNat 32 n.val :=
  (congrFun (nearest_eq D) (ix1 r)).trans (snd_at _ _ _ _ (pair_apply D r n hlt hn))

variable (z : FVec Ideal S16x128x32x32 .f32) (e : FVec Ideal S1024x128 .f32)

/-- The reference's argmin at a row is the pixel's nearest code. -/
theorem nearest_code (hz : ∀ j, IsFin (z j)) (he : ∀ j, IsFin (e j)) (r : Fin 16384) :
    nearest (dist (flat (cleaned z)) e) (ix1 r) = BitVec.ofNat 32 (code z e (bat r) (px r)).val := by
  rw [cleaned_eq z hz]
  refine nearest_apply _ _ _ (fun k => ?_) ?_
  · rw [dist_apply]
    exact sqDist_lt_top _ _ (fun i => hz _) (fun i => he _)
  · have : (fun k => (dist (flat z) e (ix2 r k) : EReal)) = dists z e (bat r) (px r) := funext fun k => dist_apply z e r k
    rw [this]
    exact code_first z e (bat r) (px r)

/-- Clipping leaves a row number of the codebook as it is. -/
theorem clipped_apply (w : IVec S16384 32) (r : Fin 16384) (n : Fin 1024) (h : w (ix1 r) = BitVec.ofNat 32 n.val) :
    clipped w (ix1 r) = BitVec.ofNat 32 n.val := by
  pointwise [clipped]
  rw [h]
  have h0 : (BitVec.ofNat 32 n.val).toInt = (n.val : ℤ) := toInt_ofNat n.isLt
  have h1 : ¬ (BitVec.ofNat 32 n.val).toInt < (0#32).toInt := by
    rw [h0, show (0#32).toInt = 0 by decide]; omega
  have h2 : ¬ (1023#32).toInt < (BitVec.ofNat 32 n.val).toInt := by
    rw [h0, show (1023#32).toInt = 1023 by decide]; have := n.isLt; omega
  simp only [IntOp.minsi, IntOp.maxsi, BitVec.slt_eq_decide, decide_eq_true_eq, if_neg h1, if_neg h2]

/-- Wrapping leaves a row number of the codebook as it is. -/
theorem wrapped_apply (w : IVec S16384 32) (r : Fin 16384) (n : Fin 1024) (h : w (ix1 r) = BitVec.ofNat 32 n.val) :
    wrapped w (ix2 r 0) = BitVec.ofNat 32 n.val := by
  pointwise [wrapped]
  rw [h]
  have h0 : (BitVec.ofNat 32 n.val).toInt = (n.val : ℤ) := toInt_ofNat n.isLt
  have h1 : (BitVec.ofNat 32 n.val).slt 0#32 = false := by
    rw [BitVec.slt_eq_decide, h0]
    simp
  simp [IntOp.cmpi, h1, Scalar.select]

/-- The gathered row is the codebook's row at the row number. -/
theorem taken_apply (w : IVec S16384x1 32) (r : Fin 16384) (b : Fin 128) (n : Fin 1024)
    (h : w (ix2 r 0) = BitVec.ofNat 32 n.val) : taken e w (ix2 r b) = e (ix2 n b) := by
  pointwise [taken]
  have h0 : (BitVec.ofNat 32 n.val).toInt = (n.val : ℤ) := toInt_ofNat n.isLt
  have h1 : (0#32).sle (BitVec.ofNat 32 n.val) = true := by
    rw [BitVec.sle_eq_decide, h0]; simp
  have h2 : (BitVec.ofNat 32 n.val).sle 1023#32 = true := by
    rw [BitVec.sle_eq_decide, h0, show (1023#32).toInt = 1023 by decide]
    exact decide_eq_true (by have := n.isLt; omega)
  have hf : Finset.fold IntOp.andi (1#1)
      (fun x => IntOp.andi (IntOp.cmpi CmpIPredicate.sge (w (ix2 r x)) 0#32)
        (IntOp.cmpi CmpIPredicate.sle (w (ix2 r x)) 1023#32)) (Finset.univ : Finset (Fin 1)) = 1#1 := by
    rw [show (Finset.univ : Finset (Fin 1)) = {0} from rfl, Finset.fold_singleton, h]
    simp [IntOp.cmpi, IntOp.andi, h1, h2]
  rw [hf]
  exact Routing.gather_row gather_S1024x128_S16384x1_S16384x128_1_0_n_n_0_1_1128 rfl rfl rfl rfl rfl e w r b n h
    (by norm_num)

/-- The reference's second result, at a batch and pixel. -/
theorem codes_apply (hz : ∀ j, IsFin (z j)) (he : ∀ j, IsFin (e j)) (r : Fin 16384) :
    codes z e (ix1 r) = BitVec.ofNat 32 (code z e (bat r) (px r)).val :=
  clipped_apply _ _ _ (nearest_code z e hz he r)

/-- The quantised array is the nearest code's entry. -/
theorem quantised_apply (hz : ∀ j, IsFin (z j)) (he : ∀ j, IsFin (e j)) (a : Fin 16) (b : Fin 128) (h w : Fin 32) :
    quantised z e (ix4 a b h w) = e (ix2 (code z e a (at2 h w)) b) := by
  unfold quantised
  have hr := fun r => taken_apply e (wrapped (codes z e)) r b _
    (wrapped_apply (codes z e) r _ (codes_apply z e hz he r))
  generalize taken e (wrapped (codes z e)) = q at hr ⊢
  pointwise [laid]
  refine (hr _).trans ?_
  have h1 : ∀ hh, bat ⟨a.val * 1024 + h.val * 32 + w.val, hh⟩ = a := fun hh =>
    Fin.ext (by show (a.val * 1024 + h.val * 32 + w.val) / 1024 = _; omega)
  have h2 : ∀ hh, px ⟨a.val * 1024 + h.val * 32 + w.val, hh⟩ = at2 h w := fun hh =>
    Fin.ext (by show (a.val * 1024 + h.val * 32 + w.val) % 1024 = h.val * 32 + w.val; omega)
  rw [h1, h2]

/-- The quantised array minus the images. -/
theorem resid_apply (hz : ∀ j, IsFin (z j)) (he : ∀ j, IsFin (e j)) (a : Fin 16) (b : Fin 128) (h w : Fin 32) :
    subf (quantised z e) (cleaned z) (ix4 a b h w) = diff z e a (at2 h w) b := by
  show (quantised z e (ix4 a b h w) : EReal) - cleaned z (ix4 a b h w) = _
  rw [quantised_apply z e hz he, cleaned_eq z hz, diff, pix_at2]

/-- The reference's first result at an index. -/
theorem out0_apply (hz : ∀ j, IsFin (z j)) (he : ∀ j, IsFin (e j)) (a : Fin 16) (b : Fin 128) (h w : Fin 32) :
    addf (cleaned z) (subf (quantised z e) (cleaned z)) (ix4 a b h w)
      = (pix z a (at2 h w) b + diff z e a (at2 h w) b : EReal) := by
  show (cleaned z (ix4 a b h w) : EReal) + subf (quantised z e) (cleaned z) (ix4 a b h w) = _
  rw [resid_apply z e hz he, cleaned_eq z hz, pix_at2]

/-- The reference's second result at an index. -/
theorem out1_apply (hz : ∀ j, IsFin (z j)) (he : ∀ j, IsFin (e j)) (a : Fin 16) (p : Fin 1024) :
    shapeCast S16x1024 (codes z e) shapeCasts_S16384_S16x1024 (ix2 a p) = BitVec.ofNat 32 (code z e a p).val := by
  have hr := codes_apply z e hz he
  generalize codes z e = q at hr ⊢
  pointwise []
  refine (hr _).trans ?_
  have h1 : ∀ hh, bat ⟨a.val * 1024 + p.val, hh⟩ = a := fun hh =>
    Fin.ext (by show (a.val * 1024 + p.val) / 1024 = _; omega)
  have h2 : ∀ hh, px ⟨a.val * 1024 + p.val, hh⟩ = p := fun hh =>
    Fin.ext (by show (a.val * 1024 + p.val) % 1024 = p.val; omega)
  rw [h1, h2]

/-- The reference's third result. -/
theorem out2_apply (hz : ∀ j, IsFin (z j)) (he : ∀ j, IsFin (e j)) (j) :
    loss (subf (quantised z e) (cleaned z)) j = lossOf z e := by
  have hr := resid_apply z e hz he
  generalize subf (quantised z e) (cleaned z) = q at hr ⊢
  pointwise [loss]
  rw [Ideal.hostReduceAdd_total _ (fun b => absurd b.isLt (by simp)), zero_add]
  unfold lossOf total
  congr 2
  rw [sum_idx4]
  refine Finset.sum_congr rfl fun a _ => Finset.sum_congr rfl fun b _ => ?_
  rw [← sum_hw fun p => diff z e a p b * diff z e a p b]
  refine Finset.sum_congr rfl fun h _ => Finset.sum_congr rfl fun w _ => ?_
  show (q (ix4 a b h w) : EReal) * q (ix4 a b h w) = _
  rw [hr]

end Cert.ReferenceIdeal.Value
end
-- ==== Proof.KernRun.lean ====
module

public import proofs.«01_k».proof.Defs
public import proofs.«01_k».proof.Proof.Gen.KernelIdeal.Frame
public import Idealize.ShloMosaic.Lib.Claim
public import Idealize.ShloMosaic.Lib.StableHlo.RunHlo
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The arrays of the region's windows are different buffers. -/
theorem arrays_inj : Function.Injective (Pipeline.arrRef cfg0.spec) := by decide +kernel

/-- The first result after the lines that follow the region. -/
theorem tail_v6 (c : Dev nD) : Pipeline.afterTail₀ cfgs (dats m) 0 (V0 m) [hostOps1] c main_v6 =
    shapeCast S16x128x32x32 ((dats m 0 c).arrAt 4 cfg0.N) shapeCasts_S16x128x1024_S16x128x32x32 := by
  unfold Pipeline.afterTail₀
  simp only [List.flatten_cons, List.flatten_nil, List.append_nil]
  unfold hostOps1
  after_results
  exact congrArg (shapeCast S16x128x32x32 · shapeCasts_S16x128x1024_S16x128x32x32)
    (Pipeline.withArrays_arr cfg0.spec arrays_inj c (V0 m c) (fun w => (dats m 0 c).arrAt w cfg0.N) 4)

/-- The second result after the lines that follow the region. -/
theorem tail_v8 (c : Dev nD) : Pipeline.afterTail₀ cfgs (dats m) 0 (V0 m) [hostOps1] c main_v8 =
    fptosi 32 (shapeCast S16x1024 ((dats m 0 c).arrAt 5 cfg0.N) shapeCasts_S16x1x1024_S16x1024) := by
  unfold Pipeline.afterTail₀
  simp only [List.flatten_cons, List.flatten_nil, List.append_nil]
  unfold hostOps1
  after_results
  exact congrArg (fun x => fptosi 32 (shapeCast S16x1024 x shapeCasts_S16x1x1024_S16x1024))
    (Pipeline.withArrays_arr cfg0.spec arrays_inj c (V0 m c) (fun w => (dats m 0 c).arrAt w cfg0.N) 5)

/-- The third result after the lines that follow the region. -/
theorem tail_v11 (c : Dev nD) : Pipeline.afterTail₀ cfgs (dats m) 0 (V0 m) [hostOps1] c main_v11 =
    mulf (Host.divf (shapeCast S_ ((dats m 0 c).arrAt 6 cfg0.N) shapeCasts_S1x1_S_)
      (constant S_ .f32 0x4A000000#32)) (constant S_ .f32 0x3E800000#32) := by
  unfold Pipeline.afterTail₀
  simp only [List.flatten_cons, List.flatten_nil, List.append_nil]
  unfold hostOps1
  after_results
  exact congrArg (fun x => mulf (Host.divf (shapeCast S_ x shapeCasts_S1x1_S_)
      (constant S_ .f32 0x4A000000#32)) (constant S_ .f32 0x3E800000#32))
    (Pipeline.withArrays_arr cfg0.spec arrays_inj c (V0 m c) (fun w => (dats m 0 c).arrAt w cfg0.N) 6)

/-- The kernel's run: its three results read off the region's output arrays, its arguments unchanged. -/
theorem run :
    θ_run defs (onTc (τ := τ) (main (F := F))) ⟨m, fun _ => 0, ρ⟩ fun r => ∀ c : Dev nD,
      r.2.mem ((c.tc : Thread nD τ).loc main_v6) =
          shapeCast S16x128x32x32 ((dats m 0 c).arrAt 4 cfg0.N) shapeCasts_S16x128x1024_S16x128x32x32 ∧
      r.2.mem ((c.tc : Thread nD τ).loc main_v8) =
          fptosi 32 (shapeCast S16x1024 ((dats m 0 c).arrAt 5 cfg0.N) shapeCasts_S16x1x1024_S16x1024) ∧
      r.2.mem ((c.tc : Thread nD τ).loc main_v11) =
          mulf (Host.divf (shapeCast S_ ((dats m 0 c).arrAt 6 cfg0.N) shapeCasts_S1x1_S_)
            (constant S_ .f32 0x4A000000#32)) (constant S_ .f32 0x3E800000#32) ∧
      r.2.mem ((c.tc : Thread nD τ).loc main_arg0) = m ((c.tc : Thread nD τ).loc main_arg0) ∧
      r.2.mem ((c.tc : Thread nD τ).loc main_arg1) = m ((c.tc : Thread nD τ).loc main_arg1) := by
  run_from (run_main m ρ)
  · exact tail_v6 m c
  · exact tail_v8 m c
  · exact tail_v11 m c
  · exact W_main_arg0 m (dats m) c
  · exact W_main_arg1 m (dats m) c

/-- What the launch reads: the image with its two spatial axes flattened, the row numbers as floats, the codebook in the
    narrow format, and the codebook doubled. -/
theorem entry (c : Dev nD) :
    V m c main_v0 = shapeCast S16x128x1024 (m ((c.tc : Thread nD τ).loc main_arg0)) shapeCasts_S16x128x32x32_S16x128x1024 ∧
    V m c main_v2 = shapeCast S1024x1 (sitofp .f32 (iotaInDim S1024 32 0)) shapeCasts_S1024_S1024x1 ∧
    V m c main_v3 = truncf .bf16 (m ((c.tc : Thread nD τ).loc main_arg1)) bitsLt_bf16_f32 ∧
    V m c main_v4 = addf (m ((c.tc : Thread nD τ).loc main_arg1)) (m ((c.tc : Thread nD τ).loc main_arg1)) := by
  refine ⟨?_, ?_, ?_, ?_⟩ <;> entry_read
  all_goals rfl

end Cert.KernelIdeal.Value
end
-- ==== Proof.KernBlock.lean ====
module

public import proofs.«01_k».proof.Proof.KernRun
public import proofs.«01_k».proof.Proof.Spec
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.Vq
open scoped BigOperators

/-- The image of a lane, within a block of four. -/
def lim (l : Fin 4096) : Fin 4 := ⟨l.val / 1024, by omega⟩

/-- The pixel of a lane. -/
def lpx (l : Fin 4096) : Fin 1024 := ⟨l.val % 1024, by omega⟩

/-- The lane of an image and a pixel. -/
def lane (s : Fin 4) (p : Fin 1024) : Fin 4096 := ⟨s.val * 1024 + p.val, by omega⟩

/-- The image of the lane of an image and a pixel. -/
theorem lim_lane (s : Fin 4) (p : Fin 1024) : lim (lane s p) = s :=
  Fin.ext (by show (s.val * 1024 + p.val) / 1024 = _; omega)

/-- The pixel of the lane of an image and a pixel. -/
theorem lpx_lane (s : Fin 4) (p : Fin 1024) : lpx (lane s p) = p :=
  Fin.ext (by show (s.val * 1024 + p.val) % 1024 = _; omega)

/-- The block's four images side by side, a pixel a lane. -/
def lanes (X : Vec Ideal S4x128x1024 .f32) : FVec Ideal S128x4096 .f32 :=
  k0_pay6 (View.ld X (Rect.unit ![0, 0, 0] ![1, 128, 1024] inb_S4x128x1024_S1x128x1024_0_0_0))
    (View.ld X (Rect.unit ![1, 0, 0] ![1, 128, 1024] inb_S4x128x1024_S1x128x1024_1_0_0))
    (View.ld X (Rect.unit ![2, 0, 0] ![1, 128, 1024] inb_S4x128x1024_S1x128x1024_2_0_0))
    (View.ld X (Rect.unit ![3, 0, 0] ![1, 128, 1024] inb_S4x128x1024_S1x128x1024_3_0_0))

/-- The chosen code of every lane, as a float. -/
def chosen (X : Vec Ideal S4x128x1024 .f32) (E2 : Vec Ideal S1024x128 .f32) (ix : Vec Ideal S1024x1 .f32) :
    FVec Ideal S1x4096 .f32 :=
  k0_pay8 (View.ld X (Rect.unit ![0, 0, 0] ![1, 128, 1024] inb_S4x128x1024_S1x128x1024_0_0_0))
    (View.ld X (Rect.unit ![1, 0, 0] ![1, 128, 1024] inb_S4x128x1024_S1x128x1024_1_0_0))
    (View.ld X (Rect.unit ![2, 0, 0] ![1, 128, 1024] inb_S4x128x1024_S1x128x1024_2_0_0))
    (View.ld X (Rect.unit ![3, 0, 0] ![1, 128, 1024] inb_S4x128x1024_S1x128x1024_3_0_0)) E2 ix

/-- The chosen code minus the pixel, on every lane. -/
def resid (X : Vec Ideal S4x128x1024 .f32) (E2 : Vec Ideal S1024x128 .f32) (ix : Vec Ideal S1024x1 .f32)
    (Eb : Vec Ideal S1024x128 .bf16) : FVec Ideal S128x4096 .f32 :=
  k0_pay9 (lanes X) (k0_pay7 ix) (chosen X E2 ix) Eb

/-- A lane's entries are its image's at its pixel. -/
theorem lanes_apply (X : Vec Ideal S4x128x1024 .f32) (b : Fin 128) (l : Fin 4096) :
    lanes X (ix2 b l) = X (ix3 (lim l) b (lpx l)) := by
  pointwise [lanes, k0_pay6]
  have key : ∀ (s : Fin 4) (p : Fin 1024), s.val * 1024 + p.val = l.val →
      X (ix3 s b p) = X (ix3 (lim l) b (lpx l)) := by
    intro s p h
    have hs : s = lim l := Fin.ext (by show s.val = l.val / 1024; omega)
    have hp : p = lpx l := Fin.ext (by show p.val = l.val % 1024; omega)
    rw [hs, hp]
  by_cases h1 : l.val < 1024
  · rw [dif_pos h1]
    exact key 0 _ (by show 0 * 1024 + l.val = l.val; omega)
  rw [dif_neg h1]
  by_cases h2 : l.val - 1024 < 1024
  · rw [dif_pos h2]
    exact key 1 _ (by show 1 * 1024 + (l.val - 1024) = l.val; omega)
  rw [dif_neg h2]
  by_cases h3 : l.val - 1024 - 1024 < 1024
  · rw [dif_pos h3]
    exact key 2 _ (by show 2 * 1024 + (l.val - 1024 - 1024) = l.val; omega)
  rw [dif_neg h3]
  exact key 3 _ (by show 3 * 1024 + (l.val - 1024 - 1024 - 1024) = l.val; omega)

/-- What a block of the launch holds: four images from batch `4 t`, the doubled codes, the row numbers, the codes. -/
structure Holds (z : Img) (e : Book) (t : Fin 4) (X : Vec Ideal S4x128x1024 .f32) (E2 : Vec Ideal S1024x128 .f32)
    (ix : Vec Ideal S1024x1 .f32) (Eb : Vec Ideal S1024x128 .bf16) : Prop where
  img : ∀ (s : Fin 4) (b : Fin 128) (p : Fin 1024),
    X (ix3 s b p) = pix z ⟨4 * t.val + s.val, by omega⟩ p b
  dbl : ∀ k b, E2 (ix2 k b) = (e (ix2 k b) + e (ix2 k b) : EReal)
  row : ∀ k : Fin 1024, ix (ix2 k 0) = ((k.val : ℝ) : EReal)
  cod : ∀ k b, Eb (ix2 k b) = e (ix2 k b)

/-- The batch of a lane of block `t`. -/
def lbat (t : Fin 4) (l : Fin 4096) : Fin 16 := ⟨4 * t.val + (lim l).val, by have := (lim l).isLt; omega⟩

section
variable {z : Img} {e : Book} {t : Fin 4} {X : Vec Ideal S4x128x1024 .f32} {E2 : Vec Ideal S1024x128 .f32}
  {ix : Vec Ideal S1024x1 .f32} {Eb : Vec Ideal S1024x128 .bf16}

/-- A lane's entries are its pixel's vector. -/
theorem lanes_pix (H : Holds z e t X E2 ix Eb) (b : Fin 128) (l : Fin 4096) :
    lanes X (ix2 b l) = pix z (lbat t l) (lpx l) b :=
  (lanes_apply X b l).trans (H.img (lim l) b (lpx l))

/-- The kernel's index of a lane is its pixel's nearest code's number. -/
theorem chosen_apply (hz : ∀ j, IsFin (z j)) (he : ∀ j, IsFin (e j)) (H : Holds z e t X E2 ix Eb) (l : Fin 4096) :
    chosen X E2 ix (ix2 0 l) = (((code z e (lbat t l) (lpx l)).val : ℝ) : EReal) := by
  have hL : ∀ b, lanes X (ix2 b l) = pix z (lbat t l) (lpx l) b := fun b => lanes_pix H b l
  unfold lanes at hL
  unfold chosen k0_pay8
  generalize k0_pay6 _ _ _ _ = Z at hL ⊢
  pointwise [k0_pay7]
  simp only [hL, H.dbl, H.row]
  simp only [doubled_eq_sqDist (pix z (lbat t l) (lpx l)) _ (fun i => hz _) (fun i => he _)]
  have hn := code_first z e (lbat t l) (lpx l)
  rw [inf_eq, kilo_eq]
  have hmin := fold_min_eq _ _ hn
  unfold dists at hmin
  rw [hmin]
  exact fold_index_eq _ _ hn _ (EReal.coe_le_coe_iff.mpr (by
    have := (code z e (lbat t l) (lpx l)).isLt
    exact_mod_cast this.le))

/-- The kernel's difference on a lane is the specification's. -/
theorem resid_apply (hz : ∀ j, IsFin (z j)) (he : ∀ j, IsFin (e j)) (H : Holds z e t X E2 ix Eb) (b : Fin 128)
    (l : Fin 4096) : resid X E2 ix Eb (ix2 b l) = diff z e (lbat t l) (lpx l) b := by
  have hL := lanes_pix H b l
  have hC := chosen_apply hz he H l
  unfold resid
  generalize lanes X = Z at hL ⊢
  generalize chosen X E2 ix = C at hC ⊢
  pointwise [k0_pay9, k0_pay7]
  simp only [hL, hC, H.row, H.cod]
  rw [onehot_sum (fun k => e (ix2 k b))]
  rfl
end

end Cert.KernelIdeal.Value
end
-- ==== Proof.KernArrays.lean ====
module

public import proofs.«01_k».proof.Proof.KernBlock

@[expose] public section

set_option maxRecDepth 16384

noncomputable section

namespace Cert.KernelIdeal.Value

open Idealize.ShloMosaic Idealize.ShloMosaic.TcCoe Idealize.SL.Sem
open Cert.KernelIdeal Cert.KernelIdeal.Gen Cert.Vq
open scoped BigOperators

variable (m : (ℓ : Loc nD τ sig) → Buf (Elt Ideal) ℓ) (c : Dev nD)

/-- The image window's block at a point is four batches from four times the point. -/
theorem index_0 : ∀ t : Fin cfg0.N, win0_0.index t = ![t.val, 0, 0] := by decide +kernel
/-- The doubled codes' block is the whole array at every point. -/
theorem index_1 : ∀ t : Fin cfg0.N, win0_1.index t = ![0, 0] := by decide +kernel
/-- The codes' block is the whole array at every point. -/
theorem index_2 : ∀ t : Fin cfg0.N, win0_2.index t = ![0, 0] := by decide +kernel
/-- The row numbers' block is the whole array at every point. -/
theorem index_3 : ∀ t : Fin cfg0.N, win0_3.index t = ![0, 0] := by decide +kernel
/-- The first result's block at a point. -/
theorem index_4 : ∀ t : Fin cfg0.N, win0_4.index t = ![t.val, 0, 0] := by decide +kernel
/-- The second result's block at a point. -/
theorem index_5 : ∀ t : Fin cfg0.N, win0_5.index t = ![t.val, 0, 0] := by decide +kernel

/-- The grid has four points. -/
theorem lt_four (t : Fin cfg0.N) : t.val < 4 := by
  have h : cfg0.N = 4 := N_0
  have := t.isLt
  omega

/-- The batch of an image of a point's block. -/
def pbat (t : Fin cfg0.N) (s : Fin 4) : Fin 16 := ⟨4 * t.val + s.val, by have := lt_four t; omega⟩

/-- An element of a point's image block, in the array. -/
theorem emb_0 (t : Fin cfg0.N) (s : Fin 4) (b : Fin 128) (p : Fin 1024) :
    (win0_0.blk t).view.emb (ix3 s b p) = ix3 (pbat t s) b p := by
  funext a
  refine Fin.ext ?_
  match a with
  | ⟨0, _⟩ => blk_simp [index_0]; show t.val * 4 + s.val = 4 * t.val + s.val; omega
  | ⟨1, _⟩ => blk_simp [index_0]
  | ⟨2, _⟩ => blk_simp [index_0]

/-- An element of the doubled codes' block, in the array. -/
theorem emb_1 (t : Fin cfg0.N) (k : Fin 1024) (b : Fin 128) :
    (win0_1.blk t).view.emb (ix2 k b) = ix2 k b := by
  funext a
  refine Fin.ext ?_
  match a with
  | ⟨0, _⟩ => blk_simp [index_1]
  | ⟨1, _⟩ => blk_simp [index_1]

/-- An element of the codes' block, in the array. -/
theorem emb_2 (t : Fin cfg0.N) (k : Fin 1024) (b : Fin 128) :
    (win0_2.blk t).view.emb (ix2 k b) = ix2 k b := by
  funext a
  refine Fin.ext ?_
  match a with
  | ⟨0, _⟩ => blk_simp [index_2]
  | ⟨1, _⟩ => blk_simp [index_2]

/-- An element of the row numbers' block, in the array. -/
theorem emb_3 (t : Fin cfg0.N) (k : Fin 1024) (b : Fin 1) :
    (win0_3.blk t).view.emb (ix2 k b) = ix2 k b := by
  funext a
  refine Fin.ext ?_
  match a with
  | ⟨0, _⟩ => blk_simp [index_3]
  | ⟨1, _⟩ => blk_simp [index_3]

/-- An element of the first result's block, in the array. -/
theorem emb_4 (t : Fin cfg0.N) (s : Fin 4) (b : Fin 128) (p : Fin 1024) :
    (win0_4.blk t).view.emb (ix3 s b p) = ix3 (pbat t s) b p := by
  funext a
  refine Fin.ext ?_
  match a with
  | ⟨0, _⟩ => blk_simp [index_4]; show t.val * 4 + s.val = 4 * t.val + s.val; omega
  | ⟨1, _⟩ => blk_simp [index_4]
  | ⟨2, _⟩ => blk_simp [index_4]

/-- An element of the second result's block, in the array. -/
theorem emb_5 (t : Fin cfg0.N) (s : Fin 4) (b : Fin 1) (p : Fin 1024) :
    (win0_5.blk t).view.emb (ix3 s b p) = ix3 (pbat t s) b p := by
  funext a
  refine Fin.ext ?_
  match a with
  | ⟨0, _⟩ => blk_simp [index_5]; show t.val * 4 + s.val = 4 * t.val + s.val; omega
  | ⟨1, _⟩ => blk_simp [index_5]
  | ⟨2, _⟩ => blk_simp [index_5]

/-- The images with height and width merged, at an index. -/
theorem images_apply (z : FVec Ideal S16x128x32x32 .f32) (a : Fin 16) (b : Fin 128) (p : Fin 1024) :
    shapeCast S16x128x1024 z shapeCasts_S16x128x32x32_S16x128x1024 (ix3 a b p) = pix z a p b := by
  pointwise []
  rfl

/-- The row numbers as floats, at an index. -/
theorem rows_apply (k : Fin 1024) :
    shapeCast S1024x1 (sitofp (F := Ideal) .f32 (iotaInDim S1024 32 0)) shapeCasts_S1024_S1024x1 (ix2 k 0)
      = ((k.val : ℝ) : EReal) := by
  refine Eq.trans ?_ (sitofp_ofNat k.isLt)
  pointwise []

/-- What the blocks of a point hold. -/
theorem holds (t : Fin cfg0.N) : Holds (m ((c.tc : Thread nD τ).loc main_arg0)) (m ((c.tc : Thread nD τ).loc main_arg1))
    ⟨t.val, lt_four t⟩ (iblk m c 0 t) (iblk m c 1 t) (iblk m c 3 t) (iblk m c 2 t) := by
  obtain ⟨h0, h2, h3, h4⟩ := entry m c
  refine ⟨fun s b p => ?_, fun k b => ?_, fun k => ?_, fun k b => ?_⟩
  · blk_simp [iblk]
    rw [emb_0, h0]
    exact images_apply _ _ _ _
  · blk_simp [iblk]
    rw [emb_1, h4]
    rfl
  · blk_simp [iblk]
    rw [emb_3, h2]
    exact rows_apply k
  · blk_simp [iblk]
    rw [emb_2, h3]
    rfl

/-- The first tile of the first result's block, at an index. -/
theorem tile4_0 (v8 : FVec Ideal S128x4096 .f32) (v27 : FVec Ideal S1024x1 .f32) (v35 : FVec Ideal S1x4096 .f32)
    (v42 : Vec Ideal S1024x128 .bf16) (b : Fin 128) (p : Fin 1024) :
    k0_pay11 v8 v27 v35 v42 (ix3 0 b p)
      = (v8 (ix2 b (⟨p.val, by omega⟩ : Fin 4096)) + k0_pay9 v8 v27 v35 v42 (ix2 b (⟨p.val, by omega⟩ : Fin 4096)) : EReal) := by
  unfold k0_pay11 k0_pay10
  generalize k0_pay9 v8 v27 v35 v42 = R
  pointwise []

/-- The second tile of the first result's block, at an index. -/
theorem tile4_1 (v8 : FVec Ideal S128x4096 .f32) (v27 : FVec Ideal S1024x1 .f32) (v35 : FVec Ideal S1x4096 .f32)
    (v42 : Vec Ideal S1024x128 .bf16) (b : Fin 128) (p : Fin 1024) :
    k0_pay13 v8 v27 v35 v42 (ix3 0 b p)
      = (v8 (ix2 b (⟨1024 + p.val, by omega⟩ : Fin 4096)) + k0_pay9 v8 v27 v35 v42 (ix2 b (⟨1024 + p.val, by omega⟩ : Fin 4096)) : EReal) := by
  unfold k0_pay13 k0_pay10
  generalize k0_pay9 v8 v27 v35 v42 = R
  pointwise []

/-- The third tile of the first result's block, at an index. -/
theorem tile4_2 (v8 : FVec Ideal S128x4096 .f32) (v27 : FVec Ideal S1024x1 .f32) (v35 : FVec Ideal S1x4096 .f32)
    (v42 : Vec Ideal S1024x128 .bf16) (b : Fin 128) (p : Fin 1024) :
    k0_pay15 v8 v27 v35 v42 (ix3 0 b p)
      = (v8 (ix2 b (⟨2048 + p.val, by omega⟩ : Fin 4096)) + k0_pay9 v8 v27 v35 v42 (ix2 b (⟨2048 + p.val, by omega⟩ : Fin 4096)) : EReal) := by
  unfold k0_pay15 k0_pay10
  generalize k0_pay9 v8 v27 v35 v42 = R
  pointwise []

/-- The fourth tile of the first result's block, at an index. -/
theorem tile4_3 (v8 : FVec Ideal S128x4096 .f32) (v27 : FVec Ideal S1024x1 .f32) (v35 : FVec Ideal S1x4096 .f32)
    (v42 : Vec Ideal S1024x128 .bf16) (b : Fin 128) (p : Fin 1024) :
    k0_pay2 (k0_pay10 v8 v27 v35 v42) (ix3 0 b p)
      = (v8 (ix2 b (⟨3072 + p.val, by omega⟩ : Fin 4096)) + k0_pay9 v8 v27 v35 v42 (ix2 b (⟨3072 + p.val, by omega⟩ : Fin 4096)) : EReal) := by
  unfold k0_pay2 k0_pay10
  generalize k0_pay9 v8 v27 v35 v42 = R
  pointwise []

/-- The first tile of the second result's block, at an index. -/
theorem tile5_0 (C : FVec Ideal S1x4096 .f32) (p : Fin 1024) :
    k0_pay12 C (ix3 0 0 p) = C (ix2 0 (⟨p.val, by omega⟩ : Fin 4096)) := by
  pointwise [k0_pay12]

/-- The second tile of the second result's block, at an index. -/
theorem tile5_1 (C : FVec Ideal S1x4096 .f32) (p : Fin 1024) :
    k0_pay14 C (ix3 0 0 p) = C (ix2 0 (⟨1024 + p.val, by omega⟩ : Fin 4096)) := by
  pointwise [k0_pay14]

/-- The third tile of the second result's block, at an index. -/
theorem tile5_2 (C : FVec Ideal S1x4096 .f32) (p : Fin 1024) :
    k0_pay1 (k0_pay16 C) (ix3 0 0 p) = C (ix2 0 (⟨2048 + p.val, by omega⟩ : Fin 4096)) := by
  pointwise [k0_pay1, k0_pay16]

/-- The fourth tile of the second result's block, at an index. -/
theorem tile5_3 (C : FVec Ideal S1x4096 .f32) (p : Fin 1024) :
    k0_pay3 C (ix3 0 0 p) = C (ix2 0 (⟨3072 + p.val, by omega⟩ : Fin 4096)) := by
  pointwise [k0_pay3]

/-- The four tiles of the first result's block: image and difference added, an image a tile. -/
theorem tiles4 (v8 : FVec Ideal S128x4096 .f32) (v27 : FVec Ideal S1024x1 .f32) (v35 : FVec Ideal S1x4096 .f32)
    (v42 : Vec Ideal S1024x128 .bf16) (s : Fin 4) (b : Fin 128) (p : Fin 1024) :
    View.canon (s := S4x128x1024) (Val := Elt Ideal) (e := .f32)
      [⟨Rect.unit ![3, 0, 0] ![1, 128, 1024] inb_S4x128x1024_S1x128x1024_3_0_0, k0_pay2 (k0_pay10 v8 v27 v35 v42)⟩,
       ⟨Rect.unit ![2, 0, 0] ![1, 128, 1024] inb_S4x128x1024_S1x128x1024_2_0_0, k0_pay15 v8 v27 v35 v42⟩,
       ⟨Rect.unit ![1, 0, 0] ![1, 128, 1024] inb_S4x128x1024_S1x128x1024_1_0_0, k0_pay13 v8 v27 v35 v42⟩,
       ⟨Rect.unit ![0, 0, 0] ![1, 128, 1024] inb_S4x128x1024_S1x128x1024_0_0_0, k0_pay11 v8 v27 v35 v42⟩]
      (ix3 s b p) = (v8 (ix2 b (lane s p)) + k0_pay9 v8 v27 v35 v42 (ix2 b (lane s p)) : EReal) := by
  have hx : ∀ x : S1x128x1024.Idx, b.val = (x 1).val → p.val = (x 2).val → x = ix3 0 b p := by
    intro x hb hp
    funext a
    match a with
    | ⟨0, _⟩ => exact Subsingleton.elim (α := Fin 1) _ _
    | ⟨1, _⟩ => exact Fin.ext hb.symm
    | ⟨2, _⟩ => exact Fin.ext hp.symm
  have hl : ∀ (n : ℕ) (hn : n < 4096), n = s.val * 1024 + p.val → (⟨n, hn⟩ : Fin 4096) = lane s p :=
    fun n hn h => Fin.ext h
  canon_tiles x h
  · have hs : s.val = 3 + (x 0).val := h0
    rw [hx x h1 h2, tile4_3, hl _ _ (by omega)]
  · have hs : s.val = 2 + (x 0).val := h0
    rw [hx x h1 h2, tile4_2, hl _ _ (by omega)]
  · have hs : s.val = 1 + (x 0).val := h0
    rw [hx x h1 h2, tile4_1, hl _ _ (by omega)]
  · have hs : s.val = (x 0).val := h0
    rw [hx x h1 h2, tile4_0, hl _ _ (by omega)]

/-- The four tiles of the second result's block: the chosen codes, an image a tile. -/
theorem tiles5 (C : FVec Ideal S1x4096 .f32) (s : Fin 4) (p : Fin 1024) :
    View.canon (s := S4x1x1024) (Val := Elt Ideal) (e := .f32)
      [⟨Rect.unit ![3, 0, 0] ![1, 1, 1024] inb_S4x1x1024_S1x1x1024_3_0_0, k0_pay3 C⟩,
       ⟨Rect.unit ![2, 0, 0] ![1, 1, 1024] inb_S4x1x1024_S1x1x1024_2_0_0, k0_pay1 (k0_pay16 C)⟩,
       ⟨Rect.unit ![1, 0, 0] ![1, 1, 1024] inb_S4x1x1024_S1x1x1024_1_0_0, k0_pay14 C⟩,
       ⟨Rect.unit ![0, 0, 0] ![1, 1, 1024] inb_S4x1x1024_S1x1x1024_0_0_0, k0_pay12 C⟩]
      (ix3 s 0 p) = C (ix2 0 (lane s p)) := by
  have hx : ∀ x : S1x1x1024.Idx, p.val = (x 2).val → x = ix3 0 0 p := by
    intro x hp
    funext a
    match a with
    | ⟨0, _⟩ => exact Subsingleton.elim (α := Fin 1) _ _
    | ⟨1, _⟩ => exact Subsingleton.elim (α := Fin 1) _ _
    | ⟨2, _⟩ => exact Fin.ext hp.symm
  have hl : ∀ (n : ℕ) (hn : n < 4096), n = s.val * 1024 + p.val → (⟨n, hn⟩ : Fin 4096) = lane s p :=
    fun n hn h => Fin.ext h
  canon_tiles x h
  · have hs : s.val = 3 + (x 0).val := h0
    rw [hx x h2, tile5_3, hl _ _ (by omega)]
  · have hs : s.val = 2 + (x 0).val := h0
    rw [hx x h2, tile5_2, hl _ _ (by omega)]
  · have hs : s.val = 1 + (x 0).val := h0
    rw [hx x h2, tile5_1, hl _ _ (by omega)]
  · have hs : s.val = (x 0).val := h0
    rw [hx x h2, tile5_0, hl _ _ (by omega)]

/-- After a point the first result's block holds image plus difference. -/
theorem out4 (t : Fin cfg0.N) (s : Fin 4) (b : Fin 128) (p : Fin 1024) :
    (outsAt0 m c t.val t.isLt).1 (ix3 s b p) =
     (lanes (iblk m c 0 t) (ix2 b (lane s p)) + resid (iblk m c 0 t) (iblk m c 1 t) (iblk m c 3 t) (iblk m c 2 t)
        (ix2 b (lane s p)) : EReal) := by
  by_cases h : t.val % 4 = 0
  · rw [outsAt0_A m c t h]
    frame_out
    exact tiles4 _ _ _ _ s b p
  · rw [outsAt0_B m c t h]
    frame_out
    exact tiles4 _ _ _ _ s b p

/-- After a point the second result's block holds the chosen codes. -/
theorem out5 (t : Fin cfg0.N) (s : Fin 4) (p : Fin 1024) :
    (outsAt0 m c t.val t.isLt).2.1 (ix3 s 0 p)
      = chosen (iblk m c 0 t) (iblk m c 1 t) (iblk m c 3 t) (ix2 0 (lane s p)) := by
  by_cases h : t.val % 4 = 0
  · rw [outsAt0_A m c t h]
    frame_out
    exact tiles5 _ s p
  · rw [outsAt0_B m c t h]
    frame_out
    exact tiles5 _ s p

/-- One step of the loss's accumulation: the squares of a block's differences are added. -/
theorem step_apply (R : FVec Ideal S128x4096 .f32) (v : Vec Ideal S1x1 .f32) (j : S1x1.Idx) :
    k0_pay5 R v j = (v j + ∑ b : Fin 128, ∑ l : Fin 4096, R (ix2 b l) * R (ix2 b l) : EReal) := by
  pointwise [k0_pay5]

/-- The squares of a point's differences, added. -/
def part (n : ℕ) : EReal :=
  if h : n < cfg0.N then
    ∑ b : Fin 128, ∑ l : Fin 4096,
      resid (iblk m c 0 ⟨n, h⟩) (iblk m c 1 ⟨n, h⟩) (iblk m c 3 ⟨n, h⟩) (iblk m c 2 ⟨n, h⟩) (ix2 b l)
        * resid (iblk m c 0 ⟨n, h⟩) (iblk m c 1 ⟨n, h⟩) (iblk m c 3 ⟨n, h⟩) (iblk m c 2 ⟨n, h⟩) (ix2 b l)
  else 0

/-- At the first point the loss's block holds that point's part. -/
theorem out6_A (t : Fin cfg0.N) (h : t.val % 4 = 0) (j : S1x1.Idx) :
    (outsAt0 m c t.val t.isLt).2.2 j = (0 + part m c t.val : EReal) := by
  rw [outsAt0_A m c t h]
  frame_out
  refine (step_apply _ _ j).trans ?_
  rw [part, dif_pos t.isLt]
  congr 1
  exact Ideal.ofBits_zero_f32

/-- At a later point the loss's block gains that point's part. -/
theorem out6_B (t : Fin cfg0.N) (h : ¬ t.val % 4 = 0) (j : S1x1.Idx) :
    (outsAt0 m c t.val t.isLt).2.2 j
      = ((outsAt0 m c (t.val - 1) (Nat.lt_of_le_of_lt (Nat.sub_le _ _) t.isLt)).2.2 j + part m c t.val : EReal) := by
  rw [outsAt0_B m c t h]
  frame_out
  refine (step_apply _ _ j).trans ?_
  rw [part, dif_pos t.isLt]
  rfl

/-! ## The arrays after the run -/

/-- The first result's array: every pixel plus its difference. -/
def G4 (z : Img) (e : Book) : Vec Ideal S16x128x1024 .f32 := fun j =>
  (pix z (j 0) (j 2) (j 1) + diff z e (j 0) (j 2) (j 1) : EReal)

/-- The second result's array: the number of every pixel's nearest code, as a float. -/
def G5 (z : Img) (e : Book) : Vec Ideal S16x1x1024 .f32 := fun j =>
  (((code z e (j 0) (j 2)).val : ℝ) : EReal)

/-- The batch of a lane of a point's block. -/
theorem lbat_lane (t : Fin cfg0.N) (s : Fin 4) (p : Fin 1024) : lbat ⟨t.val, lt_four t⟩ (lane s p) = pbat t s := by
  refine Fin.ext ?_
  show 4 * t.val + (lim (lane s p)).val = 4 * t.val + s.val
  rw [lim_lane]

/-- Lanes are images and pixels. -/
def imgPix : Fin 4 × Fin 1024 ≃ Fin 4096 where
  toFun x := lane x.1 x.2
  invFun l := (lim l, lpx l)
  left_inv x := Prod.ext (lim_lane x.1 x.2) (lpx_lane x.1 x.2)
  right_inv l := Fin.ext (by show l.val / 1024 * 1024 + l.val % 1024 = _; omega)

/-- A sum over images and pixels of a block is a sum over lanes. -/
theorem sum_lanes (f : Fin 4096 → EReal) : ∑ s : Fin 4, ∑ p : Fin 1024, f (lane s p) = ∑ l : Fin 4096, f l := by
  rw [← Fintype.sum_prod_type']
  exact Equiv.sum_comp imgPix f

/-- Batches are points and images of a block. -/
def pointImg : Fin 4 × Fin 4 ≃ Fin 16 where
  toFun x := ⟨4 * x.1.val + x.2.val, by omega⟩
  invFun a := (⟨a.val / 4, by omega⟩, ⟨a.val % 4, by omega⟩)
  left_inv x := by
    refine Prod.ext (Fin.ext ?_) (Fin.ext ?_)
    · show (4 * x.1.val + x.2.val) / 4 = _; omega
    · show (4 * x.1.val + x.2.val) % 4 = _; omega
  right_inv a := Fin.ext (by show 4 * (a.val / 4) + a.val % 4 = _; omega)

/-- A sum over points and images of a block is a sum over batches. -/
theorem sum_bats (f : Fin 16 → EReal) :
    ∑ t : Fin 4, ∑ s : Fin 4, f ⟨4 * t.val + s.val, by omega⟩ = ∑ a : Fin 16, f a := by
  rw [← Fintype.sum_prod_type']
  exact Equiv.sum_comp pointImg f

section
variable (hz : ∀ j, IsFin (m ((c.tc : Thread nD τ).loc main_arg0) j))
  (he : ∀ j, IsFin (m ((c.tc : Thread nD τ).loc main_arg1) j))
include hz he

/-- The first result's array after the run. -/
theorem arr4 : (dats m 0 c).arrAt 4 cfg0.N
    = G4 (m ((c.tc : Thread nD τ).loc main_arg0)) (m ((c.tc : Thread nD τ).loc main_arg1)) := by
  refine (dats m 0 c).arrAt_eq_of_covers 4 _ (by decide +kernel) fun t hf y => ?_
  blk_simp
  rw [after0_4]
  obtain ⟨s, b, p, rfl⟩ : ∃ (s : Fin 4) (b : Fin 128) (p : Fin 1024), y = ix3 s b p := ⟨y 0, y 1, y 2, eq_ix3 y⟩
  rw [emb_4]
  refine (out4 m c t s b p).trans ?_
  have H := holds m c t
  rw [lanes_pix H, resid_apply hz he H, lbat_lane, lpx_lane]
  rfl

/-- The second result's array after the run. -/
theorem arr5 : (dats m 0 c).arrAt 5 cfg0.N
    = G5 (m ((c.tc : Thread nD τ).loc main_arg0)) (m ((c.tc : Thread nD τ).loc main_arg1)) := by
  refine (dats m 0 c).arrAt_eq_of_covers 5 _ (by decide +kernel) fun t hf y => ?_
  blk_simp
  rw [after0_5]
  obtain ⟨s, b, p, rfl⟩ : ∃ (s : Fin 4) (b : Fin 1) (p : Fin 1024), y = ix3 s b p := ⟨y 0, y 1, y 2, eq_ix3 y⟩
  rw [emb_5]
  obtain rfl : b = 0 := Subsingleton.elim _ _
  refine (out5 m c t s p).trans ?_
  have H := holds m c t
  rw [chosen_apply hz he H, lbat_lane, lpx_lane]
  rfl

/-- A point's part of the loss is the sum over its four images. -/
theorem part_eq (t : Fin cfg0.N) : part m c t.val
    = ∑ s : Fin 4, ∑ b : Fin 128, ∑ p : Fin 1024,
        diff (m ((c.tc : Thread nD τ).loc main_arg0)) (m ((c.tc : Thread nD τ).loc main_arg1)) (pbat t s) p b
          * diff (m ((c.tc : Thread nD τ).loc main_arg0)) (m ((c.tc : Thread nD τ).loc main_arg1)) (pbat t s) p b := by
  have H := holds m c t
  rw [part, dif_pos t.isLt]
  simp only [resid_apply hz he H]
  refine Eq.trans ?_ Finset.sum_comm
  refine Finset.sum_congr rfl fun b _ => ?_
  rw [← sum_lanes]
  refine Finset.sum_congr rfl fun s _ => Finset.sum_congr rfl fun p _ => ?_
  rw [lbat_lane, lpx_lane]

/-- The loss's array after the run. -/
theorem arr6 (j : S1x1.Idx) : (dats m 0 c).arrAt 6 cfg0.N j
    = total (m ((c.tc : Thread nD τ).loc main_arg0)) (m ((c.tc : Thread nD τ).loc main_arg1)) := by
  have h : (dats m 0 c).arrAt 6 cfg0.N = fun _ =>
      total (m ((c.tc : Thread nD τ).loc main_arg0)) (m ((c.tc : Thread nD τ).loc main_arg1)) := by
    refine (dats m 0 c).arrAt_eq_of_after_last 6 t0_3 (by decide +kernel) _ fun j => ?_
    blk_simp
    rw [after0_6]
    have hs := Pipeline.eq_sum_of_reset_step_apply_single (fun n h => (outsAt0 m c n h).2.2) 4 (fun _ => (0 : EReal))
      (fun n _ => part m c n) (fun t h j => out6_A m c t h j) (fun t h j => out6_B m c t h j)
      N_0.le t0_3 j
    refine hs.trans ?_
    rw [zero_add, Finset.sum_range, total, ← sum_bats]
    refine Finset.sum_congr rfl fun i _ => ?_
    exact part_eq m c hz he ⟨i.val, lt_of_lt_of_eq i.isLt (N_0 : cfg0.N = 4).symm⟩
  rw [h]
end

end Cert.KernelIdeal.Value
end
-- ==== Proof.KernValue.lean ====
module

public import proofs.«01_k».proof.Proof.KernArrays
public import proofs.«01_k».proof.Proof.KernRun

@[expose] public section

set_option maxRecDepth 16384

noncomputable section

namespace Cert.KernelIdeal.Value

open Idealize.ShloMosaic Idealize.ShloMosaic.TcCoe Idealize.SL.Sem
open Cert.KernelIdeal Cert.KernelIdeal.Gen Cert.Vq
open scoped BigOperators

variable (m : (ℓ : Loc nD τ sig) → Buf (Elt Ideal) ℓ) (c : Dev nD)
variable (hz : ∀ j, IsFin (m ((c.tc : Thread nD τ).loc main_arg0) j))
  (he : ∀ j, IsFin (m ((c.tc : Thread nD τ).loc main_arg1) j))
include hz he

/-- The kernel's first result: each pixel plus its difference to the nearest code. -/
theorem val0_apply (a : Fin 16) (b : Fin 128) (h w : Fin 32) :
    shapeCast S16x128x32x32 ((dats m 0 c).arrAt 4 cfg0.N) shapeCasts_S16x128x1024_S16x128x32x32 (ix4 a b h w)
      = (pix (m ((c.tc : Thread nD τ).loc main_arg0)) a (at2 h w) b
        + diff (m ((c.tc : Thread nD τ).loc main_arg0)) (m ((c.tc : Thread nD τ).loc main_arg1)) a (at2 h w) b : EReal) := by
  rw [arr4 m c hz he]
  generalize m ((c.tc : Thread nD τ).loc main_arg0) = z
  generalize m ((c.tc : Thread nD τ).loc main_arg1) = e
  have hv : ∀ v : S16x128x1024.Idx → EReal,
      shapeCast S16x128x32x32 v shapeCasts_S16x128x1024_S16x128x32x32 (ix4 a b h w) = v (ix3 a b (at2 h w)) := fun v => by
    pointwise []
    rfl
  exact hv _

/-- The kernel's second result: the number of the nearest code. -/
theorem val1_apply (a : Fin 16) (p : Fin 1024) :
    fptosi (F := Ideal) (φ := .f32) 32 (shapeCast S16x1024 ((dats m 0 c).arrAt 5 cfg0.N) shapeCasts_S16x1x1024_S16x1024) (ix2 a p)
      = BitVec.ofNat 32 (code (m ((c.tc : Thread nD τ).loc main_arg0)) (m ((c.tc : Thread nD τ).loc main_arg1)) a p).val := by
  rw [arr5 m c hz he]
  have hv : ∀ v : S16x1x1024.Idx → EReal,
      shapeCast S16x1024 v shapeCasts_S16x1x1024_S16x1024 (ix2 a p) = v (ix3 a 0 p) := fun v => by
    pointwise []
  refine (congrArg (Ideal.fptosi 32) (hv _)).trans ?_
  exact fptosi_nat (code _ _ a p).isLt

/-- The kernel's third result: the loss. -/
theorem val2_apply (j : S_.Idx) :
    mulf (F := Ideal) (Host.divf (F := Ideal) (φ := .f32) (shapeCast S_ ((dats m 0 c).arrAt 6 cfg0.N) shapeCasts_S1x1_S_)
        (constant S_ .f32 0x4A000000#32)) (constant S_ .f32 0x3E800000#32) j
      = lossOf (m ((c.tc : Thread nD τ).loc main_arg0)) (m ((c.tc : Thread nD τ).loc main_arg1)) := by
  have h : (dats m 0 c).arrAt 6 cfg0.N = fun _ =>
      total (m ((c.tc : Thread nD τ).loc main_arg0)) (m ((c.tc : Thread nD τ).loc main_arg1)) :=
    funext fun j => arr6 m c hz he j
  rw [h]
  rfl

end Cert.KernelIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Finite
public import proofs.«01_k».proof.Proof.RefValue
public import proofs.«01_k».proof.Proof.KernValue
public import Idealize.ShloMosaic.Adequacy
public import Idealize.ShloMosaic.Init
public import Idealize.ShloMosaic.Lib.Quiescent

@[expose] public section

noncomputable section

namespace Cert.Proof

open Idealize.ShloMosaic Idealize.SL.Sem Cert.Vq

/-- The reference runs, leaves its arguments as they were, and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run _ _ _).mono (fun r h => ⟨fun c => (h c).2.2.2, sem_eq_zero_of_no_sems (by decide) r.2⟩)
    (Cert.ReferenceIdeal.Value.run m g)

/-- On finite arguments the kernel and the reference end with the same three results: the straight-through image, the
    numbers of the nearest codes, and the loss. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp hm
  have hfin := fun c => @Cert.Pre_finite.isFin_of_fn Cert.Pre_finite.facts _ _ (hp c)
  refine ⟨_, _, _, Cert.KernelIdeal.Value.run m g, ?_⟩
  refine (θ_run _ _ _).mono (fun r hr c => ?_) (Cert.ReferenceIdeal.Value.run m' g')
  obtain ⟨h0, h1, h2, h3, h4⟩ := hr c
  obtain ⟨hz, he⟩ := hfin c
  refine ⟨h0.trans ?_, h1.trans ?_, h2.trans ?_, h3, h4⟩
  · rw [(hm c).1, (hm c).2]
    funext j
    obtain ⟨a, b, h, w, rfl⟩ : ∃ (a : Fin 16) (b : Fin 128) (h w : Fin 32), j = ix4 a b h w := ⟨j 0, j 1, j 2, j 3, eq_ix4 j⟩
    exact (Cert.ReferenceIdeal.Value.out0_apply _ _ hz he a b h w).trans
      (Cert.KernelIdeal.Value.val0_apply m c hz he a b h w).symm
  · rw [(hm c).1, (hm c).2]
    funext j
    obtain ⟨a, p, rfl⟩ : ∃ (a : Fin 16) (p : Fin 1024), j = ix2 a p := ⟨j 0, j 1, eq_ix2 j⟩
    exact (Cert.ReferenceIdeal.Value.out1_apply _ _ hz he a p).trans
      (Cert.KernelIdeal.Value.val1_apply m c hz he a p).symm
  · rw [(hm c).1, (hm c).2]
    funext j
    exact (Cert.ReferenceIdeal.Value.out2_apply _ _ hz he j).trans
      (Cert.KernelIdeal.Value.val2_apply m c hz he j).symm

/-- Every claim of the certificate. -/
theorem claim : Cert.Claim := ⟨Cert.Kernel.Gen.facts, Cert.KernelIdeal.Gen.facts, Cert.ReferenceIdeal.Gen.facts,
  Cert.Pre_finite.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  algebraic⟩

end Cert.Proof

end
